-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S1 : Shape := ⟨1, ![1]⟩
abbrev S128 : Shape := ⟨1, ![128]⟩
abbrev S1x128x128 : Shape := ⟨3, ![1, 128, 128]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S1 : S_.BroadcastsInDim S1 (![] : Fin 0 → Fin S1.rank)
  reducesTo_S1_S_d0 : S1.ReducesTo [0] S_
  bcast_S_S128 : S_.BroadcastsInDim S128 (![] : Fin 0 → Fin S128.rank)
  reducesTo_S128_S_d0 : S128.ReducesTo [0] S_
  bcast_S_S1x128x128 : S_.BroadcastsInDim S1x128x128 (![] : Fin 0 → Fin S1x128x128.rank)
  reducesTo_S1x128x128_S_d0_1_2 : S1x128x128.ReducesTo [0, 1, 2] S_

variable [Facts]

def fn_part1 {F : FTy → Type} [FloatOps F] (main_arg8 : FVec F S1 .f32) (main_arg9 : FVec F S128 .f32) (main_arg10 : FVec F S1x128x128 .f32) (main_v3 : IVec S_ 1) (main_v7 : IVec S_ 1) (main_v11 : IVec S_ 1) (main_v15 : IVec S_ 1) : IVec S_ 1 :=
  let main_v16 : FVec F S1 .f32 := Host.absf main_arg8
  let main_cst_6 : FVec F S_ .f32 := constant S_ .f32 0x7F800000#32
  let main_v17 : FVec F S1 .f32 := broadcastInDim S1 ![] bcast_S_S1 main_cst_6
  let main_v18 : IVec S1 1 := cmpf .olt main_v16 main_v17
  let main_c_7 : IVec S_ 1 := constantI S_ 1 1#1
  let main_v19 : IVec S_ 1 := (fun x v => Host.reduce IntOp.andi x v reducesTo_S1_S_d0 h_S_) main_v18 main_c_7
  let main_v20 : FVec F S128 .f32 := Host.absf main_arg9
  let main_cst_8 : FVec F S_ .f32 := constant S_ .f32 0x7F800000#32
  let main_v21 : FVec F S128 .f32 := broadcastInDim S128 ![] bcast_S_S128 main_cst_8
  let main_v22 : IVec S128 1 := cmpf .olt main_v20 main_v21
  let main_c_9 : IVec S_ 1 := constantI S_ 1 1#1
  let main_v23 : IVec S_ 1 := (fun x v => Host.reduce IntOp.andi x v reducesTo_S128_S_d0 h_S_) main_v22 main_c_9
  let main_v24 : FVec F S1x128x128 .f32 := Host.absf main_arg10
  let main_cst_10 : FVec F S_ .f32 := constant S_ .f32 0x7F800000#32
  let main_v25 : FVec F S1x128x128 .f32 := broadcastInDim S1x128x128 ![] bcast_S_S1x128x128 main_cst_10
  let main_v26 : IVec S1x128x128 1 := cmpf .olt main_v24 main_v25
  let main_c_11 : IVec S_ 1 := constantI S_ 1 1#1
  let main_v27 : IVec S_ 1 := (fun x v => Host.reduce IntOp.andi x v reducesTo_S1x128x128_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S1x10000x128 .f32) (main_arg1 : FVec F S1x10000x128 .f32) (main_arg2 : FVec F S1x10000x10000 .f32) (main_arg3 : IVec S_ 32) (main_arg4 : FVec F S1x10000 .f32) (main_arg5 : FVec F S1x10000 .f32) (main_arg6 : FVec F S1x10000 .f32) (main_arg7 : FVec F S128x128 .f32) (main_arg8 : FVec F S1 .f32) (main_arg9 : FVec F S128 .f32) (main_arg10 : FVec F S1x128x128 .f32) (main_arg11 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x128 .f32 := Host.absf main_arg1
  let main_cst_0 : FVec F S_ .f32 := constant S_ .f32 0x7F800000#32
  let main_v5 : FVec F S1x10000x128 .f32 := broadcastInDim S1x10000x128 ![] bcast_S_S1x10000x128 main_cst_0
  let main_v6 : IVec S1x10000x128 1 := cmpf .olt main_v4 main_v5
  let main_c_1 : IVec S_ 1 := constantI S_ 1 1#1
  let main_v7 : IVec S_ 1 := (fun x v => Host.reduce IntOp.andi x v reducesTo_S1x10000x128_S_d0_1_2 h_S_) main_v6 main_c_1
  let main_v8 : FVec F S1x10000x10000 .f32 := Host.absf main_arg2
  let main_cst_2 : FVec F S_ .f32 := constant S_ .f32 0x7F800000#32
  let main_v9 : FVec F S1x10000x10000 .f32 := broadcastInDim S1x10000x10000 ![] bcast_S_S1x10000x10000 main_cst_2
  let main_v10 : IVec S1x10000x10000 1 := cmpf .olt main_v8 main_v9
  let main_c_3 : IVec S_ 1 := constantI S_ 1 1#1
  let main_v11 : IVec S_ 1 := (fun x v => Host.reduce IntOp.andi x v reducesTo_S1x10000x10000_S_d0_1_2 h_S_) main_v10 main_c_3
  let main_v12 : FVec F S128x128 .f32 := Host.absf main_arg7
  let main_cst_4 : FVec F S_ .f32 := constant S_ .f32 0x7F800000#32
  let main_v13 : FVec F S128x128 .f32 := broadcastInDim S128x128 ![] bcast_S_S128x128 main_cst_4
  let main_v14 : IVec S128x128 1 := cmpf .olt main_v12 main_v13
  let main_c_5 : IVec S_ 1 := constantI S_ 1 1#1
  let main_v15 : IVec S_ 1 := (fun x v => Host.reduce IntOp.andi x v reducesTo_S128x128_S_d0_1 h_S_) main_v14 main_c_5
  fn_part1 (F := F) main_arg8 main_arg9 main_arg10 main_v3 main_v7 main_v11 main_v15
-- ==== Kernel.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S1 : Shape := ⟨1, ![1]⟩
abbrev S128 : Shape := ⟨1, ![128]⟩
abbrev S1x128x128 : Shape := ⟨3, ![1, 128, 128]⟩
abbrev S10000x128 : Shape := ⟨2, ![10000, 128]⟩
abbrev S10000x10000 : Shape := ⟨2, ![10000, 10000]⟩
abbrev S10000x1 : Shape := ⟨2, ![10000, 1]⟩
abbrev S1x1 : Shape := ⟨2, ![1, 1]⟩
abbrev S256 : Shape := ⟨1, ![256]⟩
abbrev S1x256 : Shape := ⟨2, ![1, 256]⟩
abbrev S10000x2 : Shape := ⟨2, ![10000, 2]⟩
abbrev S10000x256 : Shape := ⟨2, ![10000, 256]⟩
abbrev S1x128 : Shape := ⟨2, ![1, 128]⟩
abbrev S200x10000 : Shape := ⟨2, ![200, 10000]⟩
abbrev S400x1 : Shape := ⟨2, ![400, 1]⟩
abbrev S400x256 : Shape := ⟨2, ![400, 256]⟩
abbrev S200x256 : Shape := ⟨2, ![200, 256]⟩
abbrev S400x128 : Shape := ⟨2, ![400, 128]⟩
abbrev S2000x256 : Shape := ⟨2, ![2000, 256]⟩
abbrev S2000x2 : Shape := ⟨2, ![2000, 2]⟩
abbrev S1x1x10000 : Shape := ⟨3, ![1, 1, 10000]⟩
abbrev S1x1x1 : Shape := ⟨3, ![1, 1, 1]⟩
abbrev S2000x128 : Shape := ⟨2, ![2000, 128]⟩
abbrev S2000 : Shape := ⟨1, ![2000]⟩
abbrev S2000x1 : Shape := ⟨2, ![2000, 1]⟩
abbrev S10000 : Shape := ⟨1, ![10000]⟩
abbrev S1x20000 : Shape := ⟨2, ![1, 20000]⟩

abbrev nBuf : Space → Nat
  | .hbm => 34
  | .vmem => 24
  | .smem => 2
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S1x10000, .f32⟩
  | .hbm, ⟨7, _⟩ => ⟨S128x128, .f32⟩
  | .hbm, ⟨8, _⟩ => ⟨S1, .f32⟩
  | .hbm, ⟨9, _⟩ => ⟨S128, .f32⟩
  | .hbm, ⟨10, _⟩ => ⟨S1x128x128, .f32⟩
  | .hbm, ⟨11, _⟩ => ⟨S1, .f32⟩
  | .hbm, ⟨12, _⟩ => ⟨S10000x128, .f32⟩
  | .hbm, ⟨13, _⟩ => ⟨S10000x128, .f32⟩
  | .hbm, ⟨14, _⟩ => ⟨S10000x10000, .f32⟩
  | .hbm, ⟨15, _⟩ => ⟨S10000x1, .f32⟩
  | .hbm, ⟨16, _⟩ => ⟨S1x1, .f32⟩
  | .hbm, ⟨17, _⟩ => ⟨S1x1, .f32⟩
  | .hbm, ⟨18, _⟩ => ⟨S256, .f32⟩
  | .hbm, ⟨19, _⟩ => ⟨S1x256, .f32⟩
  | .hbm, ⟨20, _⟩ => ⟨S128x128, .f32⟩
  | .hbm, ⟨21, _⟩ => ⟨S10000x1, .f32⟩
  | .hbm, ⟨22, _⟩ => ⟨S10000x1, .f32⟩
  | .hbm, ⟨23, _⟩ => ⟨S10000x2, .f32⟩
  | .hbm, ⟨24, _⟩ => ⟨S10000x256, .bf16⟩
  | .hbm, ⟨25, _⟩ => ⟨S1x128, .f32⟩
  | .hbm, ⟨26, _⟩ => ⟨S10000x2, .f32⟩
  | .hbm, ⟨27, _⟩ => ⟨S10000x1, .f32⟩
  | .hbm, ⟨28, _⟩ => ⟨S10000, .f32⟩
  | .hbm, ⟨29, _⟩ => ⟨S1x10000, .f32⟩
  | .hbm, ⟨30, _⟩ => ⟨S10000x1, .f32⟩
  | .hbm, ⟨31, _⟩ => ⟨S10000, .f32⟩
  | .hbm, ⟨32, _⟩ => ⟨S1x10000, .f32⟩
  | .hbm, ⟨33, _⟩ => ⟨S1x20000, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S400x1, .f32⟩
  | .local _ .vmem, ⟨8, _⟩ => ⟨S400x1, .f32⟩
  | .local _ .vmem, ⟨9, _⟩ => ⟨S1x256, .f32⟩
  | .local _ .vmem, ⟨10, _⟩ => ⟨S400x256, .bf16⟩
  | .local _ .vmem, ⟨11, _⟩ => ⟨S400x256, .bf16⟩
  | .local _ .vmem, ⟨12, _⟩ => ⟨S1x128, .f32⟩
  | .local _ .vmem, ⟨13, _⟩ => ⟨S10000x256, .f32⟩
  | .local _ .vmem, ⟨14, _⟩ => ⟨S2000x256, .bf16⟩
  | .local _ .vmem, ⟨15, _⟩ => ⟨S2000x256, .bf16⟩
  | .local _ .vmem, ⟨16, _⟩ => ⟨S1x128, .f32⟩
  | .local _ .vmem, ⟨17, _⟩ => ⟨S1x10000, .f32⟩
  | .local _ .vmem, ⟨18, _⟩ => ⟨S128x128, .f32⟩
  | .local _ .vmem, ⟨19, _⟩ => ⟨S2000x2, .f32⟩
  | .local _ .vmem, ⟨20, _⟩ => ⟨S2000x2, .f32⟩
  | .local _ .vmem, ⟨21, _⟩ => ⟨S2000x2, .f32⟩
  | .local _ .vmem, ⟨22, _⟩ => ⟨S2000x2, .f32⟩
  | .local _ .vmem, ⟨23, _⟩ => ⟨S1x128, .f32⟩
  | .local _ .smem, ⟨0, _⟩ => ⟨S1x1, .f32⟩
  | .local _ .smem, ⟨1, _⟩ => ⟨S1x1, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc0_stg7_0 : Ref sig .tc := ⟨.smem, 0, rfl⟩
abbrev cc1_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c0_i32_17 : BitVec 32 := 0#32
  let v30 : BitVec 1 := Scalar.cmpi .eq arg0 c0_i32_17
  let v31 : BitVec 32 := Scalar.extui v30
  let c0_i32_18 : BitVec 32 := 0#32
  let v32 : BitVec 1 := Scalar.cmpi .ne v31 c0_i32_18
  v32

def k0_cond3 (i : grid0.Coords) : BitVec 1 :=
  let arg0 : BitVec 32 := BitVec.ofNat 32 (i 0).val
  let c0_i32_19 : BitVec 32 := 0#32
  let v33 : BitVec 1 := Scalar.cmpi .ne arg0 c0_i32_19
  let v34 : BitVec 32 := Scalar.extui v33
  let c0_i32_20 : BitVec 32 := 0#32
  let v35 : BitVec 1 := Scalar.cmpi .ne v34 c0_i32_20
  v35

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x10000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .smem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S1 : Shape := ⟨1, ![1]⟩
abbrev S128 : Shape := ⟨1, ![128]⟩
abbrev S1x128x128 : Shape := ⟨3, ![1, 128, 128]⟩
abbrev S1x1x128 : Shape := ⟨3, ![1, 1, 128]⟩
abbrev S1x1x1 : Shape := ⟨3, ![1, 1, 1]⟩
abbrev S1x10000x1 : Shape := ⟨3, ![1, 10000, 1]⟩
abbrev S1x128 : Shape := ⟨2, ![1, 128]⟩
abbrev S1x128x1x10000 : Shape := ⟨4, ![1, 128, 1, 10000]⟩
abbrev S1x20000 : Shape := ⟨2, ![1, 20000]⟩

abbrev nBuf : Space → Nat
  | .hbm => 70
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S1x10000, .f32⟩
  | .hbm, ⟨7, _⟩ => ⟨S128x128, .f32⟩
  | .hbm, ⟨8, _⟩ => ⟨S1, .f32⟩
  | .hbm, ⟨9, _⟩ => ⟨S128, .f32⟩
  | .hbm, ⟨10, _⟩ => ⟨S1x128x128, .f32⟩
  | .hbm, ⟨11, _⟩ => ⟨S1, .f32⟩
  | .hbm, ⟨12, _⟩ => ⟨S1x10000x128, .f32⟩
  | .hbm, ⟨13, _⟩ => ⟨S1x10000x128, .f32⟩
  | .hbm, ⟨14, _⟩ => ⟨S1x1x128, .f32⟩
  | .hbm, ⟨15, _⟩ => ⟨S1x10000x128, .f32⟩
  | .hbm, ⟨16, _⟩ => ⟨S1x10000x128, .f32⟩
  | .hbm, ⟨17, _⟩ => ⟨S_, .f32⟩
  | .hbm, ⟨18, _⟩ => ⟨S1x10000x128, .f32⟩
  | .hbm, ⟨19, _⟩ => ⟨S1x10000x128, .i1⟩
  | .hbm, ⟨20, _⟩ => ⟨S1x1x1, .f32⟩
  | .hbm, ⟨21, _⟩ => ⟨S1x10000x128, .f32⟩
  | .hbm, ⟨22, _⟩ => ⟨S1x10000x128, .f32⟩
  | .hbm, ⟨23, _⟩ => ⟨S1x10000x128, .f32⟩
  | .hbm, ⟨24, _⟩ => ⟨S1x10000x1, .f32⟩
  | .hbm, ⟨25, _⟩ => ⟨S1x10000x128, .f32⟩
  | .hbm, ⟨26, _⟩ => ⟨S1x10000x128, .f32⟩
  | .hbm, ⟨27, _⟩ => ⟨S_, .f32⟩
  | .hbm, ⟨28, _⟩ => ⟨S1x128, .f32⟩
  | .hbm, ⟨29, _⟩ => ⟨S_, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x10000x128, .f32⟩
  | .hbm, ⟨42, _⟩ => ⟨S1x10000x128, .f32⟩
  | .hbm, ⟨43, _⟩ => ⟨S1x1x128, .f32⟩
  | .hbm, ⟨44, _⟩ => ⟨S1x10000x128, .f32⟩
  | .hbm, ⟨45, _⟩ => ⟨S1x10000x128, .f32⟩
  | .hbm, ⟨46, _⟩ => ⟨S_, .f32⟩
  | .hbm, ⟨47, _⟩ => ⟨S1x10000x128, .f32⟩
  | .hbm, ⟨48, _⟩ => ⟨S1x10000x128, .i1⟩
  | .hbm, ⟨49, _⟩ => ⟨S1x1x1, .f32⟩
  | .hbm, ⟨50, _⟩ => ⟨S1x10000x128, .f32⟩
  | .hbm, ⟨51, _⟩ => ⟨S1x10000x128, .f32⟩
  | .hbm, ⟨52, _⟩ => ⟨S1x10000x128, .f32⟩
  | .hbm, ⟨53, _⟩ => ⟨S1x1x128, .f32⟩
  | .hbm, ⟨54, _⟩ => ⟨S1x10000x128, .f32⟩
  | .hbm, ⟨55, _⟩ => ⟨S1x128x1x10000, .f32⟩
  | .hbm, ⟨56, _⟩ => ⟨S1x10000x1, .f32⟩
  | .hbm, ⟨57, _⟩ => ⟨S1x1x1, .f32⟩
  | .hbm, ⟨58, _⟩ => ⟨S1x10000x1, .f32⟩
  | .hbm, ⟨59, _⟩ => ⟨S1x10000x1, .f32⟩
  | .hbm, ⟨60, _⟩ => ⟨S1x10000, .f32⟩
  | .hbm, ⟨61, _⟩ => ⟨S1x128x1x10000, .f32⟩
  | .hbm, ⟨62, _⟩ => ⟨S1x10000x1, .f32⟩
  | .hbm, ⟨63, _⟩ => ⟨S1x1x1, .f32⟩
  | .hbm, ⟨64, _⟩ => ⟨S1x10000x1, .f32⟩
  | .hbm, ⟨65, _⟩ => ⟨S1x10000x1, .f32⟩
  | .hbm, ⟨66, _⟩ => ⟨S1x10000, .f32⟩
  | .hbm, ⟨67, _⟩ => ⟨S1x10000, .f32⟩
  | .hbm, ⟨68, _⟩ => ⟨S1x10000, .f32⟩
  | .hbm, ⟨69, _⟩ => ⟨S1x20000, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Proof.KernelIdeal.Bodies.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Scorer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! The two kernel bodies, run on any staging buffers: what each leaves in its outputs and in the scratch it carries. -/

/-- The word of a one-word block. -/
def word {e : EltTy} (x : Vec F S1x1 e) : Elt F e := x (Shape.Idx.first (by decide))

/-- Any load of a one-word block reads its word. -/
theorem ld_word {e : EltTy} (x : Vec F S1x1 e) (r : Rect S1x1) (y : r.shape.Idx) : View.ld x r y = word x := by
  unfold word View.ld
  congr 1
  funext a
  have h1 : ∀ p q : Fin (S1x1.size a), p = q := by
    revert a; decide
  exact h1 _ _

/-- The first kernel is at its first point (the condition under which it fills its scratch). -/
abbrev starts0 (i : grid0.Coords) : Prop := (Scalar.cmpi .ne (Scalar.extui (Scalar.cmpi .eq (BitVec.ofNat 32 (i 0).val) 0#32)) 0#32) = 1#1
/-- The first kernel is at its first point (the condition under which it sets its accumulator). -/
abbrev sets0 (i : grid0.Coords) : Prop := k0_cond2 i = 1#1
/-- The first kernel is past its first point (the condition under which it adds to its accumulator). -/
abbrev adds0 (i : grid0.Coords) : Prop := k0_cond3 i = 1#1
/-- The second kernel is at its first point (the condition under which it fills its scratch). -/
abbrev starts1 (i : grid1.Coords) : Prop := (Scalar.cmpi .ne (Scalar.extui (Scalar.cmpi .eq (BitVec.ofNat 32 (i 0).val) 0#32)) 0#32) = 1#1

/-- The filling condition holds at the first of the 25 points only. -/
theorem starts0_iff (t : Fin cfg0.N) : starts0 (grid0.coords t) ↔ t.val = 0 := by
  have ht : t.val < 25 := Nat.lt_of_lt_of_eq t.isLt N_0
  have e0 : (grid0.coords t 0).val = t.val / 1 % 25 := Pipeline.Grid.coords_val t 0 (by decide) rfl
  simp only [starts0, e0]
  word_cmp
/-- The setting condition holds at the first of the 25 points only. -/
theorem sets0_iff (t : Fin cfg0.N) : sets0 (grid0.coords t) ↔ t.val = 0 := by
  have ht : t.val < 25 := Nat.lt_of_lt_of_eq t.isLt N_0
  have e0 : (grid0.coords t 0).val = t.val / 1 % 25 := Pipeline.Grid.coords_val t 0 (by decide) rfl
  simp only [sets0, k0_cond2, e0]
  word_cmp
/-- The adding condition holds at every point after the first. -/
theorem adds0_iff (t : Fin cfg0.N) : adds0 (grid0.coords t) ↔ 1 ≤ t.val := by
  have ht : t.val < 25 := Nat.lt_of_lt_of_eq t.isLt N_0
  have e0 : (grid0.coords t 0).val = t.val / 1 % 25 := Pipeline.Grid.coords_val t 0 (by decide) rfl
  simp only [adds0, k0_cond3, e0]
  word_cmp
/-- The second kernel's filling condition holds at the first of its 5 points only. -/
theorem starts1_iff (t : Fin cfg1.N) : starts1 (grid1.coords t) ↔ t.val = 0 := by
  have ht : t.val < 5 := Nat.lt_of_lt_of_eq t.isLt N_1
  have e0 : (grid1.coords t 0).val = t.val / 1 % 5 := Pipeline.Grid.coords_val t 0 (by decide) rfl
  simp only [starts1, e0]
  word_cmp

/-- The two stores that fill the first kernel's scratch, the later first: the right half of the columns from the
    second sequence, the left half from the first. -/
abbrev ftsPieces (s1 s2 : Vec F S10000x128 .f32) (w : Vec F S128x128 .f32) : List (View.Piece (Elt F) S10000x256 .f32) :=
  [⟨Rect.unit (s := S10000x256) ![0, 128] S10000x128.size inb_S10000x256_S10000x128_0_128, k0_pay3 w s2⟩,
   ⟨Rect.unit (s := S10000x256) ![0, 0] S10000x128.size inb_S10000x256_S10000x128_0_0, k0_pay2 w s1⟩]

/-- What the first kernel's scratch holds once filled. -/
def ftsOf (s1 s2 : Vec F S10000x128 .f32) (w : Vec F S128x128 .f32) : Vec F S10000x256 .f32 :=
  View.canon (ftsPieces s1 s2 w)

/-- The two stores cover the scratch. -/
theorem ftsPieces_cover (s1 s2 : Vec F S10000x128 .f32) (w : Vec F S128x128 .f32) (y : S10000x256.Idx) :
    ∃ p ∈ ftsPieces s1 s2 w, y ∈ p.1.set :=
  View.cover_of_tiledL (ftsPieces s1 s2 w) S10000x128.size (by sl_kernel_rfl) y

set_option maxHeartbeats 1000000 in
/-- The first kernel at its first point: the scratch is filled, and the block and the sum are those of the scratch just filled. -/
theorem body0_first (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x1 .f32) (harg6 : arg6.IsWhole) (arg7 : Memref sig .tc .vmem S1x256 .f32) (harg7 : arg7.IsWhole) (arg8 : Memref sig .tc .smem S1x1 .f32) (harg8 : arg8.IsWhole) (arg9 : Memref sig .tc .vmem S400x256 .bf16) (harg9 : arg9.IsWhole) (arg10 : Memref sig .tc .vmem S1x128 .f32) (harg10 : arg10.IsWhole) (arg11 : Memref sig .tc .vmem S10000x256 .f32) (harg11 : arg11.IsWhole)
    (hc0 : starts0 i) (hc1 : sets0 i) (hc2 : ¬adds0 i) (x0 : Vec F S10000x128 .f32) (x1 : Vec F S10000x128 .f32) (x2 : Vec F S128x128 .f32) (x3 : Vec F S200x10000 .f32) (x4 : Vec F S200x10000 .f32) (x5 : Vec F S400x1 .f32) (x6 : Vec F S1x256 .f32) (x7 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay5 (ftsOf x0 x1 x2) x3 x4 x6 (word x7)) ∗ owns (c : Thread nD τ) arg10 fullShare (k0_pay6 (ftsOf x0 x1 x2) x3 x4 x6 (word x7) x5) ∗ owns (c : Thread nD τ) arg11 fullShare (ftsOf x0 x1 x2)) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11) K := by
  simp only [cc0__main_body_eq_skeleton]; unfold cc0__main_body_skel; simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; iexact H8
    ipureintro
    frame_open
    refine (View.read_writes_full _ _ _ _ _).trans ?_
    simp (disch := decide) only [View.readCov_unit_lit', View.readCov_cons_unit_lit', View.ld_unit_lit', View.readAt_eq_ld, Memref.IsWhole.read_unread]
    refine congrArg₂ (fun z q => k0_pay5 z x3 x4 x6 q) ?_ (ld_word x7 _ _)
    exact (View.readCov_eq_canon_ld _ (ftsPieces x0 x1 x2) _ (ftsPieces_cover x0 x1 x2)).trans (View.ld_unit_lit' _ _ (by decide))
  isplitl [H9]
  · iexists _; isplitr
    swap; iexact H9
    ipureintro
    frame_open
    refine (View.read_writes_full _ _ _ _ _).trans ?_
    simp (disch := decide) only [View.readCov_unit_lit', View.readCov_cons_unit_lit', View.ld_unit_lit', View.readAt_eq_ld, Memref.IsWhole.read_unread]
    refine congrArg₂ (fun z q => k0_pay6 z x3 x4 x6 q x5) ?_ (ld_word x7 _ _)
    exact (View.readCov_eq_canon_ld _ (ftsPieces x0 x1 x2) _ (ftsPieces_cover x0 x1 x2)).trans (View.ld_unit_lit' _ _ (by decide))
  iexists _; isplitr
  swap; iexact H10
  ipureintro
  frame_open
  simp (disch := decide) only [View.readCov_unit_lit', View.readCov_cons_unit_lit', View.ld_unit_lit', View.readAt_eq_ld, Memref.IsWhole.read_unread]
  exact View.read_writes_eq_canon _ _ (ftsPieces x0 x1 x2) (ftsPieces_cover x0 x1 x2)

set_option maxHeartbeats 1000000 in
/-- The first kernel past its first point: the scratch is read as it was left, and the sum is added to. -/
theorem body0_next (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x1 .f32) (harg6 : arg6.IsWhole) (arg7 : Memref sig .tc .vmem S1x256 .f32) (harg7 : arg7.IsWhole) (arg8 : Memref sig .tc .smem S1x1 .f32) (harg8 : arg8.IsWhole) (arg9 : Memref sig .tc .vmem S400x256 .bf16) (harg9 : arg9.IsWhole) (arg10 : Memref sig .tc .vmem S1x128 .f32) (harg10 : arg10.IsWhole) (arg11 : Memref sig .tc .vmem S10000x256 .f32) (harg11 : arg11.IsWhole)
    (hc0 : ¬starts0 i) (hc1 : ¬sets0 i) (hc2 : adds0 i) (x0 : Vec F S10000x128 .f32) (x1 : Vec F S10000x128 .f32) (x2 : Vec F S128x128 .f32) (x3 : Vec F S200x10000 .f32) (x4 : Vec F S200x10000 .f32) (x5 : Vec F S400x1 .f32) (x6 : Vec F S1x256 .f32) (x7 : Vec F S1x1 .f32) (a : Vec F S1x128 .f32) (z : Vec F S10000x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare a ∗ owns (c : Thread nD τ) arg11 fullShare z
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay5 z x3 x4 x6 (word x7)) ∗ owns (c : Thread nD τ) arg10 fullShare (k0_pay1 (k0_pay6 z x3 x4 x6 (word x7) x5) a) ∗ owns (c : Thread nD τ) arg11 fullShare z) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11) K := by
  simp only [cc0__main_body_eq_skeleton]; unfold cc0__main_body_skel; simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; iexact H8
    ipureintro
    frame_open
    refine (View.read_writes_full _ _ _ _ _).trans ?_
    simp (disch := decide) only [View.readCov_unit_lit', View.readCov_cons_unit_lit', View.ld_unit_lit', View.readAt_eq_ld, Memref.IsWhole.read_unread]
    exact congrArg (fun q => k0_pay5 z x3 x4 x6 q) (ld_word x7 _ _)
  isplitl [H9]
  · iexists _; isplitr
    swap; iexact H9
    ipureintro
    frame_open
    refine (View.read_writes_full _ _ _ _ _).trans ?_
    simp (disch := decide) only [View.readCov_unit_lit', View.readCov_cons_unit_lit', View.ld_unit_lit', View.readAt_eq_ld, Memref.IsWhole.read_unread]
    exact congrArg (fun q => k0_pay1 (k0_pay6 z x3 x4 x6 q x5) a) (ld_word x7 _ _)
  iexists _; isplitr; · ipureintro; exact harg11.read_unread _
  iexact H10

set_option maxHeartbeats 1000000 in
/-- The second kernel at its first point: the scratch is filled and read. -/
theorem body1_first (c : Dev nD) (i : grid1.Coords) (arg1 : Memref sig .tc .vmem S2000x256 .bf16) (harg1 : arg1.IsWhole) (arg2 : Memref sig .tc .vmem S1x128 .f32) (harg2 : arg2.IsWhole) (arg3 : Memref sig .tc .vmem S1x10000 .f32) (harg3 : arg3.IsWhole) (arg4 : Memref sig .tc .vmem S128x128 .f32) (harg4 : arg4.IsWhole) (arg5 : Memref sig .tc .vmem S2000x2 .f32) (harg5 : arg5.IsWhole) (arg6 : Memref sig .tc .smem S1x1 .f32) (harg6 : arg6.IsWhole) (arg7 : Memref sig .tc .vmem S2000x2 .f32) (harg7 : arg7.IsWhole) (arg8 : Memref sig .tc .vmem S1x128 .f32) (harg8 : arg8.IsWhole)
    (hc : starts1 i) (x0 : Vec F S2000x256 .bf16) (x1 : Vec F S1x128 .f32) (x2 : Vec F S1x10000 .f32) (x3 : Vec F S128x128 .f32) (x4 : Vec F S2000x2 .f32) (x5 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay2 (k1_pay1 x2 x1 x3) x0 (word x5) x4) ∗ owns (c : Thread nD τ) arg8 fullShare (k1_pay1 x2 x1 x3)) -∗ K ⟨⟩))
      ⊢ wp frame (wpE (defs₀ (F := F)) Variants.none c none) E (cc1__epi_body i arg1 harg1 arg2 harg2 arg3 harg3 arg4 harg4 arg5 harg5 arg6 harg6 arg7 harg7 arg8 harg8) K := by
  simp only [cc1__epi_body_eq_skeleton]; unfold cc1__epi_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; iexact H6
    ipureintro
    frame_open
    refine (View.read_writes_full _ _ _ _ _).trans ?_
    simp (disch := decide) only [View.readCov_unit_lit', View.readCov_cons_unit_lit', View.ld_unit_lit', View.readAt_eq_ld, Memref.IsWhole.read_unread]
    exact congrArg (fun q => k1_pay2 (k1_pay1 x2 x1 x3) x0 q x4) (ld_word x5 _ _)
  iexists _; isplitr
  swap; iexact H7
  ipureintro
  frame_open
  refine (View.read_writes_full _ _ _ _ _).trans ?_
  simp (disch := decide) only [View.readCov_unit_lit', View.readCov_cons_unit_lit', View.ld_unit_lit', View.readAt_eq_ld, Memref.IsWhole.read_unread]

set_option maxHeartbeats 1000000 in
/-- The second kernel past its first point: the scratch is read as it was left. -/
theorem body1_next (c : Dev nD) (i : grid1.Coords) (arg1 : Memref sig .tc .vmem S2000x256 .bf16) (harg1 : arg1.IsWhole) (arg2 : Memref sig .tc .vmem S1x128 .f32) (harg2 : arg2.IsWhole) (arg3 : Memref sig .tc .vmem S1x10000 .f32) (harg3 : arg3.IsWhole) (arg4 : Memref sig .tc .vmem S128x128 .f32) (harg4 : arg4.IsWhole) (arg5 : Memref sig .tc .vmem S2000x2 .f32) (harg5 : arg5.IsWhole) (arg6 : Memref sig .tc .smem S1x1 .f32) (harg6 : arg6.IsWhole) (arg7 : Memref sig .tc .vmem S2000x2 .f32) (harg7 : arg7.IsWhole) (arg8 : Memref sig .tc .vmem S1x128 .f32) (harg8 : arg8.IsWhole)
    (hc : ¬starts1 i) (x0 : Vec F S2000x256 .bf16) (x1 : Vec F S1x128 .f32) (x2 : Vec F S1x10000 .f32) (x3 : Vec F S128x128 .f32) (x4 : Vec F S2000x2 .f32) (x5 : Vec F S1x1 .f32) (v : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare v
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay2 v x0 (word x5) x4) ∗ owns (c : Thread nD τ) arg8 fullShare v) -∗ K ⟨⟩))
      ⊢ wp frame (wpE (defs₀ (F := F)) Variants.none c none) E (cc1__epi_body i arg1 harg1 arg2 harg2 arg3 harg3 arg4 harg4 arg5 harg5 arg6 harg6 arg7 harg7 arg8 harg8) K := by
  simp only [cc1__epi_body_eq_skeleton]; unfold cc1__epi_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; iexact H6
    ipureintro
    frame_open
    refine (View.read_writes_full _ _ _ _ _).trans ?_
    simp (disch := decide) only [View.readCov_unit_lit', View.readCov_cons_unit_lit', View.ld_unit_lit', View.readAt_eq_ld, Memref.IsWhole.read_unread]
    exact congrArg (fun q => k1_pay2 v x0 q x4) (ld_word x5 _ _)
  iexists _; isplitr; · ipureintro; exact harg8.read_unread _
  iexact H7

end Cert.KernelIdeal.Scorer

end
-- ==== Proof.KernelIdeal.Call0.lean ====
module

public import proofs.«01_k».proof.Proof.KernelIdeal.Bodies
public import Idealize.ShloMosaic.Lib.Pipeline.TableIdle

@[expose] public section

set_option maxRecDepth 16384

noncomputable section

namespace Cert.KernelIdeal.Scorer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! Pallas call 0: its blocks, its proof data at the buffers `V` it is entered with, and its body's obligation. -/

section Region0

variable (V : (c : Dev nD) → (b : Ref sig .tc) → Buf (Elt F) ((c : Thread nD τ).loc b))

/-- Window `w`'s block at point `t`, read off its array as call 0 finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Call 0 has a first point. -/
def first0 : Fin cfg0.N := ⟨0, by rw [show cfg0.N = 25 from N_0]; decide⟩

/-- What the scratch of call 0 holds from the first point on. -/
def fts (c : Dev nD) : Vec F S10000x256 .f32 := ftsOf (blk0 V c 0 first0) (blk0 V c 1 first0) (blk0 V c 2 first0)

/-- The block of hidden features call 0 writes at point `t`. -/
def hid (c : Dev nD) (t : Fin cfg0.N) : Vec F S400x256 .bf16 :=
  k0_pay5 (fts V c) (blk0 V c 3 t) (blk0 V c 4 t) (blk0 V c 6 t) (word (blk0 V c 7 t))

/-- The masked sum of the rows of point `t`. -/
def part (c : Dev nD) (t : Fin cfg0.N) : Vec F S1x128 .f32 :=
  k0_pay6 (fts V c) (blk0 V c 3 t) (blk0 V c 4 t) (blk0 V c 6 t) (word (blk0 V c 7 t)) (blk0 V c 5 t)

/-- The running masked sum after point `n`. -/
def acc (c : Dev nD) : (n : ℕ) → n < cfg0.N → Vec F S1x128 .f32
  | 0, h => part V c ⟨0, h⟩
  | n + 1, h => k0_pay1 (part V c ⟨n + 1, h⟩) (acc c n (Nat.lt_of_succ_lt h))

/-- At the first point the running sum is the point's own. -/
theorem acc_first (c : Dev nD) (t : Fin cfg0.N) (h : t.val = 0) : acc V c t.val t.isLt = part V c t := by
  obtain ⟨n, hn⟩ := t
  simp only at h
  subst h
  rfl

/-- Past the first point the running sum is the one before with the point's own added. -/
theorem acc_next (c : Dev nD) (t : Fin cfg0.N) (h : t.val ≠ 0) :
    acc V c t.val t.isLt = k0_pay1 (part V c t) (acc V c (t.val - 1) (Nat.lt_of_le_of_lt (Nat.sub_le _ _) t.isLt)) := by
  obtain ⟨n, hn⟩ := t
  cases n with
  | zero => exact absurd rfl h
  | succ n => rfl

/-- The scoped buffers call 0 does not touch. -/
def idle0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_stg5_0), ((c : Thread nD τ).loc cc1_stg5_0) ↦{fullShare} f))

/-- The scratch of call 0, as the body is given it. -/
abbrev scr0 : Memref sig .tc .vmem S10000x256 .f32 := Memref.whole cc0_scratch0

/-- The launch's invariant, the scratch first. -/
theorem inv0_start (c : Dev nD) :
    (Pipeline.ΦA spec0 c : sProp 𝕄) ⊢ iprop((∃ d, owns (c : Thread nD τ) scr0 fullShare d) ∗ idle0 c ∗ (∃ r, prngReg c r)) := by
  unfold Pipeline.ΦA idle0; rw [scopedRest0_eq]; simp only [scr0, owns_whole]
  iintro ⟨⟨H0, H1, H2, H3, H4, H5, H6, H7, H8, H9, H10, H11⟩, Hg⟩
  isplitl [H0]; · iexact H0
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- The launch's invariant given back. -/
theorem inv0_back (c : Dev nD) :
    iprop((∃ d, owns (c : Thread nD τ) scr0 fullShare d) ∗ idle0 c ∗ (∃ r, prngReg c r)) ⊢ (Pipeline.ΦA spec0 c : sProp 𝕄) := by
  unfold Pipeline.ΦA idle0; rw [scopedRest0_eq]; simp only [scr0, owns_whole]
  iintro ⟨H0, ⟨H1, H2, H3, H4, H5, H6, H7, H8, H9, H10, H11⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- The invariant before point `n`: the launch's before the first, then the scratch at its contents. -/
def inv0 (c : Dev nD) : ℕ → sProp 𝕄
  | 0 => Pipeline.ΦA spec0 c
  | _ + 1 => iprop(owns (c : Thread nD τ) scr0 fullShare (fts V c) ∗ idle0 c ∗ (∃ r, prngReg c r))

/-- Before a point past the first the scratch holds its contents. -/
theorem inv0_pos (c : Dev nD) (n : ℕ) (h : n ≠ 0) :
    inv0 V c n = iprop(owns (c : Thread nD τ) scr0 fullShare (fts V c) ∗ idle0 c ∗ (∃ r, prngReg c r)) := by
  cases n with
  | zero => exact absurd rfl h
  | succ n => rfl

/-- The proof data of call 0: its arrays as it finds them, each input's buffer at its block after the body and each
    output's at what the body leaves, the invariant above, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => hid V c t
    | ⟨9, _⟩ => acc V c t.val t.isLt
  Φ t := inv0 V c t.val
  q w := Pipeline.shareOf spec0 w
  owed _ := 0

/-- The arrays are as the call finds them. -/
theorem dat0_A (c : Dev nD) (w : Fin cfg0.W) : (dat0 V c).A w = V c (Pipeline.arrRef spec0 w) := by
  dsimp only [dat0]
/-- Window 0 after the body. -/
theorem after0_0 (c : Dev nD) (t : Fin cfg0.N) : (dat0 V c).after 0 t = blk0 V c 0 t := by dsimp only [dat0]
/-- Window 1 after the body. -/
theorem after0_1 (c : Dev nD) (t : Fin cfg0.N) : (dat0 V c).after 1 t = blk0 V c 1 t := by dsimp only [dat0]
/-- Window 2 after the body. -/
theorem after0_2 (c : Dev nD) (t : Fin cfg0.N) : (dat0 V c).after 2 t = blk0 V c 2 t := by dsimp only [dat0]
/-- Window 3 after the body. -/
theorem after0_3 (c : Dev nD) (t : Fin cfg0.N) : (dat0 V c).after 3 t = blk0 V c 3 t := by dsimp only [dat0]
/-- Window 4 after the body. -/
theorem after0_4 (c : Dev nD) (t : Fin cfg0.N) : (dat0 V c).after 4 t = blk0 V c 4 t := by dsimp only [dat0]
/-- Window 5 after the body. -/
theorem after0_5 (c : Dev nD) (t : Fin cfg0.N) : (dat0 V c).after 5 t = blk0 V c 5 t := by dsimp only [dat0]
/-- Window 6 after the body. -/
theorem after0_6 (c : Dev nD) (t : Fin cfg0.N) : (dat0 V c).after 6 t = blk0 V c 6 t := by dsimp only [dat0]
/-- Window 7 after the body. -/
theorem after0_7 (c : Dev nD) (t : Fin cfg0.N) : (dat0 V c).after 7 t = blk0 V c 7 t := by dsimp only [dat0]
/-- Window 8 after the body. -/
theorem after0_8 (c : Dev nD) (t : Fin cfg0.N) : (dat0 V c).after 8 t = hid V c t := by dsimp only [dat0]
/-- Window 9 after the body. -/
theorem after0_9 (c : Dev nD) (t : Fin cfg0.N) : (dat0 V c).after 9 t = acc V c t.val t.isLt := by dsimp only [dat0]
/-- Window 0 before the body: its block. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
/-- Window 1 before the body: its block. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)
/-- Window 2 before the body: its block. -/
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [dat0_A]; try rfl) t d).trans
    (by unfold Dat.fetched Dat.blockOf blk0; rw [dat0_A]; try rfl)
/-- Window 3 before the body: its block. -/
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [dat0_A]; try rfl) t d).trans
    (by unfold Dat.fetched Dat.blockOf blk0; rw [dat0_A]; try rfl)
/-- Window 4 before the body: its block. -/
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [dat0_A]; try rfl) t d).trans
    (by unfold Dat.fetched Dat.blockOf blk0; rw [dat0_A]; try rfl)
/-- Window 5 before the body: its block. -/
theorem before0_5 (c : Dev nD) (t : Fin cfg0.N) (d) : (dat0 V c).before 5 t d = blk0 V c 5 t :=
  ((dat0 V c).before_in_eq_fetched 5 rfl (fun _ => rfl) (fun _ _ _ => rfl)
    (fun t => by rw [after0_5]; unfold Dat.blockOf blk0; rw [dat0_A]; try rfl) t d).trans
    (by unfold Dat.fetched Dat.blockOf blk0; rw [dat0_A]; try rfl)
/-- Window 6 before the body: its block. -/
theorem before0_6 (c : Dev nD) (t : Fin cfg0.N) (d) : (dat0 V c).before 6 t d = blk0 V c 6 t :=
  ((dat0 V c).before_in_eq_fetched 6 rfl (fun _ => rfl) (fun _ _ _ => rfl)
    (fun t => by rw [after0_6]; unfold Dat.blockOf blk0; rw [dat0_A]; try rfl) t d).trans
    (by unfold Dat.fetched Dat.blockOf blk0; rw [dat0_A]; try rfl)
/-- Window 7 before the body: its block. -/
theorem before0_7 (c : Dev nD) (t : Fin cfg0.N) (d) : (dat0 V c).before 7 t d = blk0 V c 7 t :=
  ((dat0 V c).before_in_eq_fetched 7 rfl (fun _ => rfl) (fun _ _ _ => rfl)
    (fun t => by rw [after0_7]; unfold Dat.blockOf blk0; rw [dat0_A]; try rfl) t d).trans
    (by unfold Dat.fetched Dat.blockOf blk0; rw [dat0_A]; try rfl)
/-- Window 0 is in use at every point. -/
theorem live0_0 : ∀ t : Fin cfg0.N, cfg0.idle 0 (grid0.coords t) = false := fun _ => rfl
/-- Window 1 is in use at every point. -/
theorem live0_1 : ∀ t : Fin cfg0.N, cfg0.idle 1 (grid0.coords t) = false := fun _ => rfl
/-- Window 2 is in use at every point. -/
theorem live0_2 : ∀ t : Fin cfg0.N, cfg0.idle 2 (grid0.coords t) = false := fun _ => rfl
/-- Window 3 is in use at every point. -/
theorem live0_3 : ∀ t : Fin cfg0.N, cfg0.idle 3 (grid0.coords t) = false := fun _ => rfl
/-- Window 4 is in use at every point. -/
theorem live0_4 : ∀ t : Fin cfg0.N, cfg0.idle 4 (grid0.coords t) = false := fun _ => rfl
/-- Window 5 is in use at every point. -/
theorem live0_5 : ∀ t : Fin cfg0.N, cfg0.idle 5 (grid0.coords t) = false := fun _ => rfl
/-- Window 6 is in use at every point. -/
theorem live0_6 : ∀ t : Fin cfg0.N, cfg0.idle 6 (grid0.coords t) = false := fun _ => rfl
/-- Window 7 is in use at every point. -/
theorem live0_7 : ∀ t : Fin cfg0.N, cfg0.idle 7 (grid0.coords t) = false := fun _ => rfl
/-- Window 8 is in use at every point. -/
theorem live0_8 : ∀ t : Fin cfg0.N, cfg0.idle 8 (grid0.coords t) = false := fun _ => rfl
/-- Window 9 is stored into at every point. -/
theorem live0_9 : ∀ t : Fin cfg0.N, cfg0.idle 9 (grid0.coords t) = false := by decide +kernel
/-- The accumulator's buffer has been stored into before every point past the first. -/
theorem stale0_9 (t : Fin cfg0.N) (h : t.val ≠ 0) : cfg0.fresh 9 t.val = false := by
  have tab : ∀ t : Fin cfg0.N, (fun n : ℕ => decide (n = 0) || decide (n = 25)) (t.val + 1)
      = ((cfg0.win 9).flush t || (cfg0.idle 9 (cfg0.grid.coords t) && (fun n : ℕ => decide (n = 0) || decide (n = 25)) t.val)) := by decide +kernel
  rw [Pipeline.Cfg.fresh_tab cfg0 9 (fun n : ℕ => decide (n = 0) || decide (n = 25)) rfl tab t.val (Nat.le_of_lt t.isLt)]
  have : t.val < 25 := Nat.lt_of_lt_of_eq t.isLt N_0
  simp only [h, decide_false, Bool.false_or, decide_eq_false_iff_not]
  omega

/-- Past the first point the accumulator's buffer holds the running sum of the point before. -/
theorem before0_9 (c : Dev nD) (t : Fin cfg0.N) (h : t.val ≠ 0) (d) :
    (dat0 V c).before 9 t d = acc V c (t.val - 1) (Nat.lt_of_le_of_lt (Nat.sub_le _ _) t.isLt) := by
  rw [Dat.before_out_traj _ 9 rfl (fun _ _ => rfl)
    (fun t _ hi _ => absurd ((live0_9 t).symm.trans hi) Bool.false_ne_true) t.val t rfl d,
    if_neg (by rw [stale0_9 t h]; exact Bool.false_ne_true)]
  dsimp only [dat0]

/-- The three whole operands are the same block at every point. -/
theorem blk0_still (c : Dev nD) (t : Fin cfg0.N) (h : t.val = 0) :
    fts V c = ftsOf (blk0 V c 0 t) (blk0 V c 1 t) (blk0 V c 2 t) := by
  obtain rfl : t = first0 := Fin.ext h
  rfl

/-- What the body of call 0 is given at point `t`, -/
def pre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d))
    ∗ (∃ d, owns (c : Thread nD τ) (win0_9.stage (cfg0.slots t 9)) fullShare ((dat0 V c).before 9 t d)))

/-- and what it gives back. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

/-- Window 0 is handed back at what the body leaves in it. -/
theorem leaves0_0 (c : Dev nD) (t : Fin cfg0.N) :
    (dat0 V c).leavesExact 0 t = owns (c : Thread nD τ) (win0_0.stage (cfg0.slots t 0)) fullShare (blk0 V c 0 t) := by
  rw [← after0_0 V c t]
/-- Window 1 is handed back at what the body leaves in it. -/
theorem leaves0_1 (c : Dev nD) (t : Fin cfg0.N) :
    (dat0 V c).leavesExact 1 t = owns (c : Thread nD τ) (win0_1.stage (cfg0.slots t 1)) fullShare (blk0 V c 1 t) := by
  rw [← after0_1 V c t]
/-- Window 2 is handed back at what the body leaves in it. -/
theorem leaves0_2 (c : Dev nD) (t : Fin cfg0.N) :
    (dat0 V c).leavesExact 2 t = owns (c : Thread nD τ) (win0_2.stage (cfg0.slots t 2)) fullShare (blk0 V c 2 t) := by
  rw [← after0_2 V c t]
/-- Window 3 is handed back at what the body leaves in it. -/
theorem leaves0_3 (c : Dev nD) (t : Fin cfg0.N) :
    (dat0 V c).leavesExact 3 t = owns (c : Thread nD τ) (win0_3.stage (cfg0.slots t 3)) fullShare (blk0 V c 3 t) := by
  rw [← after0_3 V c t]
/-- Window 4 is handed back at what the body leaves in it. -/
theorem leaves0_4 (c : Dev nD) (t : Fin cfg0.N) :
    (dat0 V c).leavesExact 4 t = owns (c : Thread nD τ) (win0_4.stage (cfg0.slots t 4)) fullShare (blk0 V c 4 t) := by
  rw [← after0_4 V c t]
/-- Window 5 is handed back at what the body leaves in it. -/
theorem leaves0_5 (c : Dev nD) (t : Fin cfg0.N) :
    (dat0 V c).leavesExact 5 t = owns (c : Thread nD τ) (win0_5.stage (cfg0.slots t 5)) fullShare (blk0 V c 5 t) := by
  rw [← after0_5 V c t]
/-- Window 6 is handed back at what the body leaves in it. -/
theorem leaves0_6 (c : Dev nD) (t : Fin cfg0.N) :
    (dat0 V c).leavesExact 6 t = owns (c : Thread nD τ) (win0_6.stage (cfg0.slots t 6)) fullShare (blk0 V c 6 t) := by
  rw [← after0_6 V c t]
/-- Window 7 is handed back at what the body leaves in it. -/
theorem leaves0_7 (c : Dev nD) (t : Fin cfg0.N) :
    (dat0 V c).leavesExact 7 t = owns (c : Thread nD τ) (win0_7.stage (cfg0.slots t 7)) fullShare (blk0 V c 7 t) := by
  rw [← after0_7 V c t]
/-- Window 8 is handed back at what the body leaves in it. -/
theorem leaves0_8 (c : Dev nD) (t : Fin cfg0.N) :
    (dat0 V c).leavesExact 8 t = owns (c : Thread nD τ) (win0_8.stage (cfg0.slots t 8)) fullShare (hid V c t) := by
  rw [← after0_8 V c t]
/-- Window 9 is handed back at what the body leaves in it. -/
theorem leaves0_9 (c : Dev nD) (t : Fin cfg0.N) :
    (dat0 V c).leavesExact 9 t = owns (c : Thread nD τ) (win0_9.stage (cfg0.slots t 9)) fullShare (acc V c t.val t.isLt) := by
  rw [← after0_9 V c t]; unfold Dat.leavesExact; rw [live0_9 t]

set_option maxHeartbeats 3200000 in
/-- The body of call 0 at any point. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5, before0_6, before0_7, leaves0_0, leaves0_1, leaves0_2, leaves0_3, leaves0_4, leaves0_5, leaves0_6, leaves0_7, leaves0_8, leaves0_9]
  rw [show (dat0 V c).owesAt () t.succ = (dat0 V c).owesAt () t.castSucc from rfl,
    show (dat0 V c).Φ t.succ = inv0 V c (t.val + 1) from rfl, inv0_pos V c (t.val + 1) (Nat.succ_ne_zero _),
    show (dat0 V c).Φ t.castSucc = inv0 V c t.val from rfl]
  by_cases hz : t.val = 0
  · rw [show inv0 V c t.val = Pipeline.ΦA spec0 c from by rw [hz]; rfl]
    rw [acc_first V c t hz]; unfold hid part; rw [blk0_still V c t hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HΦ := (inv0_start c) $$ HΦ
    icases HΦ with ⟨HS, Hi, Hg⟩
    iapply (body0_first c (grid0.coords t) _ _ _ _ _ _ _ _ _ _ _ _ _ _ _ _ _ _ _ _ _ _ ((starts0_iff t).mpr hz) ((sets0_iff t).mpr hz) (fun h => absurd ((adds0_iff t).mp h) (by omega)) (blk0 V c 0 t) (blk0 V c 1 t) (blk0 V c 2 t) (blk0 V c 3 t) (blk0 V c 4 t) (blk0 V c 5 t) (blk0 V c 6 t) (blk0 V c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS Hi Hg]
    · isplitl [HS]; · iexact HS
      isplitl [Hi]; · iexact Hi
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [inv0_pos V c t.val hz]
    rw [acc_next V c t hz]; simp only [before0_9 V c t hz]; unfold hid part
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    icases HΦ with ⟨HS, Hi, Hg⟩
    iapply (body0_next c (grid0.coords t) _ _ _ _ _ _ _ _ _ _ _ _ _ _ _ _ _ _ _ _ _ _ (fun h => hz ((starts0_iff t).mp h)) (fun h => hz ((sets0_iff t).mp h)) ((adds0_iff t).mpr (by omega)) (blk0 V c 0 t) (blk0 V c 1 t) (blk0 V c 2 t) (blk0 V c 3 t) (blk0 V c 4 t) (blk0 V c 5 t) (blk0 V c 6 t) (blk0 V c 7 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS]; · iexact HS
    iintro ⟨H0, H1, H2, H3, H4, H5, H6, H7, H8, H9, HS⟩
    isplitl [HS Hi Hg]
    · isplitl [HS]; · iexact HS
      isplitl [Hi]; · iexact Hi
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The obligation of call 0's body, at every point. -/
theorem obliged0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body0_at V c t) rfl .rfl fun _ => .rfl

/-- What the launch hands call 0 is the invariant before the first point, -/
theorem enter0 (c : Dev nD) : Pipeline.ΦA spec0 c ⊢ (dat0 V c).Φ 0 := .rfl

/-- and after the last point it takes its own back. -/
theorem leave0 (c : Dev nD) : (dat0 V c).Φ (Fin.last cfg0.N) ⊢ Pipeline.ΦA spec0 c := by
  rw [show (dat0 V c).Φ (Fin.last cfg0.N) = inv0 V c 25 from by
    rw [show 25 = (Fin.last cfg0.N).val from by rw [Fin.val_last]; exact N_0.symm]; rfl, inv0_pos V c 25 (by decide)]
  refine .trans ?_ (inv0_back c)
  iintro ⟨HS, Hi, Hg⟩
  isplitl [HS]; · iexists _; iexact HS
  isplitl [Hi]; · iexact Hi
  iexact Hg

end Region0

end Cert.KernelIdeal.Scorer

end
-- ==== Proof.KernelIdeal.Call1.lean ====
module

public import proofs.«01_k».proof.Proof.KernelIdeal.Bodies
public import Idealize.ShloMosaic.Lib.Pipeline.TableIdle

@[expose] public section

set_option maxRecDepth 16384

noncomputable section

namespace Cert.KernelIdeal.Scorer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! Pallas call 1: its blocks, its proof data at the buffers `V` it is entered with, and its body's obligation. -/

section Region1

variable (V : (c : Dev nD) → (b : Ref sig .tc) → Buf (Elt F) ((c : Thread nD τ).loc b))

/-- Window `w`'s block at point `t`, read off its array as call 1 finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Call 1 has a first point. -/
def first1 : Fin cfg1.N := ⟨0, by rw [show cfg1.N = 5 from N_1]; decide⟩

/-- What the scratch of call 1 holds from the first point on. -/
def proj (c : Dev nD) : Vec F S1x128 .f32 := k1_pay1 (blk1 V c 2 first1) (blk1 V c 1 first1) (blk1 V c 3 first1)

/-- The block of scores call 1 writes at point `t`. -/
def sco (c : Dev nD) (t : Fin cfg1.N) : Vec F S2000x2 .f32 :=
  k1_pay2 (proj V c) (blk1 V c 0 t) (word (blk1 V c 5 t)) (blk1 V c 4 t)

/-- The scoped buffers call 1 does not touch. -/
def idle1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_stg7_0), ((c : Thread nD τ).loc cc0_stg7_0) ↦{fullShare} f))

/-- The scratch of call 1, as the body is given it. -/
abbrev scr1 : Memref sig .tc .vmem S1x128 .f32 := Memref.whole cc1_scratch0

/-- The launch's invariant, the scratch first. -/
theorem inv1_start (c : Dev nD) :
    (Pipeline.ΦA spec1 c : sProp 𝕄) ⊢ iprop((∃ d, owns (c : Thread nD τ) scr1 fullShare d) ∗ idle1 c ∗ (∃ r, prngReg c r)) := by
  unfold Pipeline.ΦA idle1; rw [scopedRest1_eq]; simp only [scr1, owns_whole]
  iintro ⟨⟨H0, H1, H2, H3, H4, H5, H6, H7, H8, H9, H10, H11, H12, H13, H14, H15⟩, Hg⟩
  isplitl [H14]; · iexact H14
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H15
  iexact Hg

/-- The launch's invariant given back. -/
theorem inv1_back (c : Dev nD) :
    iprop((∃ d, owns (c : Thread nD τ) scr1 fullShare d) ∗ idle1 c ∗ (∃ r, prngReg c r)) ⊢ (Pipeline.ΦA spec1 c : sProp 𝕄) := by
  unfold Pipeline.ΦA idle1; rw [scopedRest1_eq]; simp only [scr1, owns_whole]
  iintro ⟨H14, ⟨H0, H1, H2, H3, H4, H5, H6, H7, H8, H9, H10, H11, H12, H13, H15⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iexact Hg

/-- The invariant before point `n`: the launch's before the first, then the scratch at its contents. -/
def inv1 (c : Dev nD) : ℕ → sProp 𝕄
  | 0 => Pipeline.ΦA spec1 c
  | _ + 1 => iprop(owns (c : Thread nD τ) scr1 fullShare (proj V c) ∗ idle1 c ∗ (∃ r, prngReg c r))

/-- Before a point past the first the scratch holds its contents. -/
theorem inv1_pos (c : Dev nD) (n : ℕ) (h : n ≠ 0) :
    inv1 V c n = iprop(owns (c : Thread nD τ) scr1 fullShare (proj V c) ∗ idle1 c ∗ (∃ r, prngReg c r)) := by
  cases n with
  | zero => exact absurd rfl h
  | succ n => rfl

/-- The proof data of call 1: its arrays as it finds them, each input's buffer at its block after the body and each
    output's at what the body leaves, the invariant above, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => sco V c t
  Φ t := inv1 V c t.val
  q _ := fullShare
  owed _ := 0

/-- The arrays are as the call finds them. -/
theorem dat1_A (c : Dev nD) (w : Fin cfg1.W) : (dat1 V c).A w = V c (Pipeline.arrRef spec1 w) := by
  dsimp only [dat1]
/-- Window 0 after the body. -/
theorem after1_0 (c : Dev nD) (t : Fin cfg1.N) : (dat1 V c).after 0 t = blk1 V c 0 t := by dsimp only [dat1]
/-- Window 1 after the body. -/
theorem after1_1 (c : Dev nD) (t : Fin cfg1.N) : (dat1 V c).after 1 t = blk1 V c 1 t := by dsimp only [dat1]
/-- Window 2 after the body. -/
theorem after1_2 (c : Dev nD) (t : Fin cfg1.N) : (dat1 V c).after 2 t = blk1 V c 2 t := by dsimp only [dat1]
/-- Window 3 after the body. -/
theorem after1_3 (c : Dev nD) (t : Fin cfg1.N) : (dat1 V c).after 3 t = blk1 V c 3 t := by dsimp only [dat1]
/-- Window 4 after the body. -/
theorem after1_4 (c : Dev nD) (t : Fin cfg1.N) : (dat1 V c).after 4 t = blk1 V c 4 t := by dsimp only [dat1]
/-- Window 5 after the body. -/
theorem after1_5 (c : Dev nD) (t : Fin cfg1.N) : (dat1 V c).after 5 t = blk1 V c 5 t := by dsimp only [dat1]
/-- Window 6 after the body. -/
theorem after1_6 (c : Dev nD) (t : Fin cfg1.N) : (dat1 V c).after 6 t = sco V c t := by dsimp only [dat1]
/-- Window 0 before the body: its block. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)
/-- Window 1 before the body: its block. -/
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [dat1_A]; try rfl) t d).trans
    (by unfold Dat.fetched Dat.blockOf blk1; rw [dat1_A]; try rfl)
/-- Window 2 before the body: its block. -/
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [dat1_A]; try rfl) t d).trans
    (by unfold Dat.fetched Dat.blockOf blk1; rw [dat1_A]; try rfl)
/-- Window 3 before the body: its block. -/
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [dat1_A]; try rfl) t d).trans
    (by unfold Dat.fetched Dat.blockOf blk1; rw [dat1_A]; try rfl)
/-- Window 4 before the body: its block. -/
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [dat1_A]; try rfl) t d).trans
    (by unfold Dat.fetched Dat.blockOf blk1; rw [dat1_A]; try rfl)
/-- Window 5 before the body: its block. -/
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [dat1_A]; try rfl) t d).trans
    (by unfold Dat.fetched Dat.blockOf blk1; rw [dat1_A]; try rfl)
/-- Window 0 is in use at every point. -/
theorem live1_0 : ∀ t : Fin cfg1.N, cfg1.idle 0 (grid1.coords t) = false := fun _ => rfl
/-- Window 1 is in use at every point. -/
theorem live1_1 : ∀ t : Fin cfg1.N, cfg1.idle 1 (grid1.coords t) = false := fun _ => rfl
/-- Window 2 is in use at every point. -/
theorem live1_2 : ∀ t : Fin cfg1.N, cfg1.idle 2 (grid1.coords t) = false := fun _ => rfl
/-- Window 3 is in use at every point. -/
theorem live1_3 : ∀ t : Fin cfg1.N, cfg1.idle 3 (grid1.coords t) = false := fun _ => rfl
/-- Window 4 is in use at every point. -/
theorem live1_4 : ∀ t : Fin cfg1.N, cfg1.idle 4 (grid1.coords t) = false := fun _ => rfl
/-- Window 5 is in use at every point. -/
theorem live1_5 : ∀ t : Fin cfg1.N, cfg1.idle 5 (grid1.coords t) = false := fun _ => rfl
/-- Window 6 is in use at every point. -/
theorem live1_6 : ∀ t : Fin cfg1.N, cfg1.idle 6 (grid1.coords t) = false := fun _ => rfl
/-- The three whole operands at the first point. -/
theorem blk1_still (c : Dev nD) (t : Fin cfg1.N) (h : t.val = 0) :
    proj V c = k1_pay1 (blk1 V c 2 t) (blk1 V c 1 t) (blk1 V c 3 t) := by
  obtain rfl : t = first1 := Fin.ext h
  rfl

/-- What the body of call 1 is given at point `t`, -/
def pre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d)))

/-- and what it gives back. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- Window 0 is handed back at what the body leaves in it. -/
theorem leaves1_0 (c : Dev nD) (t : Fin cfg1.N) :
    (dat1 V c).leavesExact 0 t = owns (c : Thread nD τ) (win1_0.stage (cfg1.slots t 0)) fullShare (blk1 V c 0 t) := by
  rw [← after1_0 V c t]
/-- Window 1 is handed back at what the body leaves in it. -/
theorem leaves1_1 (c : Dev nD) (t : Fin cfg1.N) :
    (dat1 V c).leavesExact 1 t = owns (c : Thread nD τ) (win1_1.stage (cfg1.slots t 1)) fullShare (blk1 V c 1 t) := by
  rw [← after1_1 V c t]
/-- Window 2 is handed back at what the body leaves in it. -/
theorem leaves1_2 (c : Dev nD) (t : Fin cfg1.N) :
    (dat1 V c).leavesExact 2 t = owns (c : Thread nD τ) (win1_2.stage (cfg1.slots t 2)) fullShare (blk1 V c 2 t) := by
  rw [← after1_2 V c t]
/-- Window 3 is handed back at what the body leaves in it. -/
theorem leaves1_3 (c : Dev nD) (t : Fin cfg1.N) :
    (dat1 V c).leavesExact 3 t = owns (c : Thread nD τ) (win1_3.stage (cfg1.slots t 3)) fullShare (blk1 V c 3 t) := by
  rw [← after1_3 V c t]
/-- Window 4 is handed back at what the body leaves in it. -/
theorem leaves1_4 (c : Dev nD) (t : Fin cfg1.N) :
    (dat1 V c).leavesExact 4 t = owns (c : Thread nD τ) (win1_4.stage (cfg1.slots t 4)) fullShare (blk1 V c 4 t) := by
  rw [← after1_4 V c t]
/-- Window 5 is handed back at what the body leaves in it. -/
theorem leaves1_5 (c : Dev nD) (t : Fin cfg1.N) :
    (dat1 V c).leavesExact 5 t = owns (c : Thread nD τ) (win1_5.stage (cfg1.slots t 5)) fullShare (blk1 V c 5 t) := by
  rw [← after1_5 V c t]
/-- Window 6 is handed back at what the body leaves in it. -/
theorem leaves1_6 (c : Dev nD) (t : Fin cfg1.N) :
    (dat1 V c).leavesExact 6 t = owns (c : Thread nD τ) (win1_6.stage (cfg1.slots t 6)) fullShare (sco V c t) := by
  rw [← after1_6 V c t]

set_option maxHeartbeats 3200000 in
/-- The body of call 1 at any point. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, leaves1_0, leaves1_1, leaves1_2, leaves1_3, leaves1_4, leaves1_5, leaves1_6]
  rw [show (dat1 V c).owesAt () t.succ = (dat1 V c).owesAt () t.castSucc from rfl,
    show (dat1 V c).Φ t.succ = inv1 V c (t.val + 1) from rfl, inv1_pos V c (t.val + 1) (Nat.succ_ne_zero _),
    show (dat1 V c).Φ t.castSucc = inv1 V c t.val from rfl]
  by_cases hz : t.val = 0
  · rw [show inv1 V c t.val = Pipeline.ΦA spec1 c from by rw [hz]; rfl]
    unfold sco; rw [blk1_still V c t hz]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ := (inv1_start c) $$ HΦ
    icases HΦ with ⟨HS, Hi, Hg⟩
    iapply (body1_first c (grid1.coords t) _ _ _ _ _ _ _ _ _ _ _ _ _ _ _ _ ((starts1_iff t).mpr hz) (blk1 V c 0 t) (blk1 V c 1 t) (blk1 V c 2 t) (blk1 V c 3 t) (blk1 V c 4 t) (blk1 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hi Hg]
    · isplitl [HS]; · iexact HS
      isplitl [Hi]; · iexact Hi
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [inv1_pos V c t.val hz]
    unfold sco
    iintro ⟨HΦ, Ho, ⟨%d0, H0⟩, ⟨%d1, H1⟩, ⟨%d2, H2⟩, ⟨%d3, H3⟩, ⟨%d4, H4⟩, ⟨%d5, H5⟩, ⟨%d6, H6⟩⟩
    icases HΦ with ⟨HS, Hi, Hg⟩
    iapply (body1_next c (grid1.coords t) _ _ _ _ _ _ _ _ _ _ _ _ _ _ _ _ (fun h => hz ((starts1_iff t).mp h)) (blk1 V c 0 t) (blk1 V c 1 t) (blk1 V c 2 t) (blk1 V c 3 t) (blk1 V c 4 t) (blk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hi Hg]
    · isplitl [HS]; · iexact HS
      isplitl [Hi]; · iexact Hi
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The obligation of call 1's body, at every point. -/
theorem obliged1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (body1_at V c t) rfl .rfl fun _ => .rfl

/-- What the launch hands call 1 is the invariant before the first point, -/
theorem enter1 (c : Dev nD) : Pipeline.ΦA spec1 c ⊢ (dat1 V c).Φ 0 := .rfl

/-- and after the last point it takes its own back. -/
theorem leave1 (c : Dev nD) : (dat1 V c).Φ (Fin.last cfg1.N) ⊢ Pipeline.ΦA spec1 c := by
  rw [show (dat1 V c).Φ (Fin.last cfg1.N) = inv1 V c 5 from by
    rw [show 5 = (Fin.last cfg1.N).val from by rw [Fin.val_last]; exact N_1.symm]; rfl, inv1_pos V c 5 (by decide)]
  refine .trans ?_ (inv1_back c)
  iintro ⟨HS, Hi, Hg⟩
  isplitl [HS]; · iexists _; iexact HS
  isplitl [Hi]; · iexact Hi
  iexact Hg

end Region1

end Cert.KernelIdeal.Scorer

end
-- ==== Proof.KernelIdeal.Run.lean ====
module

public import proofs.«01_k».proof.Proof.KernelIdeal.Call0
public import proofs.«01_k».proof.Proof.KernelIdeal.Call1

@[expose] public section

set_option maxRecDepth 16384

noncomputable section

namespace Cert.KernelIdeal.Scorer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! @main from the launch to the return: host operations, call 0, call 1, host operations. -/

variable (m : (ℓ : Loc nD τ sig) → Buf (Elt F) ℓ) (ρ : Dev nD → PrngReg)

/-- @main's arguments. -/
abbrev args : List (Ref sig .tc) := [main_arg0, main_arg1, main_arg2, main_arg3, main_arg4, main_arg5, main_arg6, main_arg7, main_arg8, main_arg9, main_arg10, main_arg11]

/-- What the first host operations write. -/
abbrev wr0 : List (Ref sig .tc) := [main_v0, main_v1, main_v2, main_v3, main_v4, main_v5, main_v6, main_v7, main_v8, main_v9, main_v10, main_v11]
/-- What the last host operations write. -/
abbrev wr2 : List (Ref sig .tc) := [main_v14, main_v15, main_v16, main_v17, main_v18, main_v19, main_v20]
/-- The first host operations allocate nothing. -/
theorem fresh0 : (hostOps0 : List (HloOp τ sig (Elt F))).Forall fun op => op.fresh = ∅ := by
  simp only [List.Forall]; repeat' constructor
/-- The last host operations allocate nothing. -/
theorem fresh2 : (hostOps2 : List (HloOp τ sig (Elt F))).Forall fun op => op.fresh = ∅ := by
  simp only [List.Forall]; repeat' constructor
/-- The first host operations write `wr0` only. -/
theorem writes0 : (hostOps0 : List (HloOp τ sig (Elt F))).Forall fun op => op.writes ⊆ (wr0.map (Proc.devRef (τ := τ) .tc)).toFinset :=
  StableHlo.forall_writes_sub_of_map rfl
/-- The last host operations write `wr2` only. -/
theorem writes2 : (hostOps2 : List (HloOp τ sig (Elt F))).Forall fun op => op.writes ⊆ (wr2.map (Proc.devRef (τ := τ) .tc)).toFinset :=
  StableHlo.forall_writes_sub_of_map rfl

/-- The buffers at launch. -/
abbrev W0 : Dev nD → Valuation τ sig (Elt F) := fun c b => (s₀ m ρ).mem ((c : Dev nD), b)
/-- The buffers when call 0 is entered. -/
abbrev W1 : Dev nD → Valuation τ sig (Elt F) := fun c => StableHlo.after hostOps0 (W0 m ρ c)
/-- The same at the references of a core. -/
abbrev V1 : (c : Dev nD) → (b : Ref sig .tc) → Buf (Elt F) ((c : Thread nD τ).loc b) := fun c b => W1 m ρ c b
/-- The buffers when call 1 is entered: call 0's two outputs at what it wrote back. -/
def W2 (c : Dev nD) : Valuation τ sig (Elt F) :=
  Function.update (Function.update (W1 m ρ c) (Proc.devRef .tc main_v12_0) ((dat0 (V1 m ρ) c).arrAt 8 cfg0.N))
    (Proc.devRef .tc main_v12_1) ((dat0 (V1 m ρ) c).arrAt 9 cfg0.N)
/-- The same at the references of a core. -/
abbrev V2 : (c : Dev nD) → (b : Ref sig .tc) → Buf (Elt F) ((c : Thread nD τ).loc b) := fun c b => W2 m ρ c b
/-- The buffers when call 1 is left: its output at what it wrote back. -/
def W3 (c : Dev nD) : Valuation τ sig (Elt F) :=
  Pipeline.withArrays spec1 c (W2 m ρ c) fun w => (dat1 (V2 m ρ) c).arrAt w cfg1.N
/-- The same at the references of a core. -/
abbrev V3 : (c : Dev nD) → (b : Ref sig .tc) → Buf (Elt F) ((c : Thread nD τ).loc b) := fun c b => W3 m ρ c b
/-- The buffers at the return. -/
abbrev W4 : Dev nD → Valuation τ sig (Elt F) := fun c => StableHlo.after hostOps2 (W3 m ρ c)

/-- The hidden features as call 1 finds them. -/
theorem W2_hid (c : Dev nD) : W2 m ρ c (Proc.devRef .tc main_v12_0) = (dat0 (V1 m ρ) c).arrAt 8 cfg0.N := by
  unfold W2
  rw [Function.update_of_ne (StableHlo.devRef_ne_of_ne (by decide)), Function.update_self]
/-- The masked sum as call 1 finds it. -/
theorem W2_sum (c : Dev nD) : W2 m ρ c (Proc.devRef .tc main_v12_1) = (dat0 (V1 m ρ) c).arrAt 9 cfg0.N := by
  unfold W2
  rw [Function.update_self]
/-- Any other buffer is as call 0 found it. -/
theorem W2_of (c : Dev nD) (r : Ref sig .tc) (h0 : r ≠ main_v12_0) (h1 : r ≠ main_v12_1) :
    W2 m ρ c (Proc.devRef .tc r) = W1 m ρ c (Proc.devRef .tc r) := by
  unfold W2
  rw [Function.update_of_ne (StableHlo.devRef_ne_of_ne h1), Function.update_of_ne (StableHlo.devRef_ne_of_ne h0)]
/-- Each array of call 1 when it is left. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- Any other buffer is as call 1 found it. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer call 1 does not write is as it found it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (dat1_A (V2 m ρ) c w))
  · exact W3_of_ne m ρ c r fun w e => hw ⟨w, e⟩

/-- No argument is written by the host operations or is an output of a call. -/
theorem args_kept : ∀ a ∈ args, a ∉ wr0 ∧ a ∉ wr2 ∧ a ≠ main_v12_0 ∧ a ≠ main_v12_1
    ∧ ∀ w : Fin cfg1.W, Pipeline.arrRef spec1 w = a → (cfg1.win w).isOut = false :=
  ListAll.forall_mem_of_all_decide (by decide +kernel)
/-- Every argument reaches call 0 as launched. -/
theorem W1_args (c : Dev nD) (a : Ref sig .tc) (ha : a ∈ args) : W1 m ρ c (Proc.devRef .tc a) = m ((c : Thread nD τ).loc a) :=
  StableHlo.after_of_writes_sub hostOps0 _ writes0 (args_kept a ha).1
/-- Every argument reaches call 1 as launched. -/
theorem W2_args (c : Dev nD) (a : Ref sig .tc) (ha : a ∈ args) : W2 m ρ c (Proc.devRef .tc a) = m ((c : Thread nD τ).loc a) :=
  (W2_of m ρ c a (args_kept a ha).2.2.1 (args_kept a ha).2.2.2.1).trans (W1_args m ρ c a ha)
/-- Every argument ends as launched. -/
theorem W4_args (c : Dev nD) (a : Ref sig .tc) (ha : a ∈ args) : W4 m ρ c (Proc.devRef .tc a) = m ((c : Thread nD τ).loc a) :=
  (StableHlo.after_of_writes_sub hostOps2 _ writes2 (args_kept a ha).2.1).trans
    ((W3_of m ρ c a (args_kept a ha).2.2.2.2).trans (W2_args m ρ c a ha))

/-- Every array of call 0 is left at what its write-backs make of it. -/
theorem left0 (c : Dev nD) (w : Fin cfg0.W) : (dat0 (V1 m ρ) c).arrAt w cfg0.N = V2 m ρ c (Pipeline.arrRef spec0 w) := by
  have hin : ∀ w : Fin cfg0.W, (cfg0.win w).isOut = false →
      Pipeline.arrRef spec0 w ≠ main_v12_0 → Pipeline.arrRef spec0 w ≠ main_v12_1 →
      (dat0 (V1 m ρ) c).arrAt w cfg0.N = V2 m ρ c (Pipeline.arrRef spec0 w) := fun w hw h0 h1 =>
    ((dat0 (V1 m ρ) c).arrAt_in w hw _).trans ((dat0_A (V1 m ρ) c w).trans (W2_of m ρ c _ h0 h1).symm)
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact hin 4 rfl (by decide) (by decide)
  | ⟨5, _⟩ => exact hin 5 rfl (by decide) (by decide)
  | ⟨6, _⟩ => exact hin 6 rfl (by decide) (by decide)
  | ⟨7, _⟩ => exact hin 7 rfl (by decide) (by decide)
  | ⟨8, _⟩ => exact (W2_hid m ρ c).symm
  | ⟨9, _⟩ => exact (W2_sum m ρ c).symm
/-- Every other buffer is as call 0 found it. -/
theorem kept0 (c : Dev nD) (b : Ref sig .tc) (hb : b ∉ Finset.univ.image (Pipeline.arrRef spec0)) : V2 m ρ c b = V1 m ρ c b :=
  W2_of m ρ c b (fun e => hb (Finset.mem_image.mpr ⟨8, Finset.mem_univ _, e.symm⟩))
    (fun e => hb (Finset.mem_image.mpr ⟨9, Finset.mem_univ _, e.symm⟩))
/-- Every array of call 1 is left at what its write-backs make of it. -/
theorem left1 (c : Dev nD) (w : Fin cfg1.W) : (dat1 (V2 m ρ) c).arrAt w cfg1.N = V3 m ρ c (Pipeline.arrRef spec1 w) :=
  (W3_arr m ρ c w).symm
/-- Every other buffer is as call 1 found it. -/
theorem kept1 (c : Dev nD) (b : Ref sig .tc) (hb : b ∉ Finset.univ.image (Pipeline.arrRef spec1)) : V3 m ρ c b = V2 m ρ c b :=
  W3_of_ne m ρ c b fun w e => hb (Finset.mem_image.mpr ⟨w, Finset.mem_univ _, e⟩)

/-- No call prefetches a table. -/
abbrev adm : (p : Fin 2) → (pcfgs (F := F) p).Adm := fun p => (cfgs p).toPCfg_adm
/-- The proof data of the two calls, each at the buffers it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No loop variant is needed. -/
abbrev 𝒱₀ : Variants := Variants.none
/-- No core owes another anything. -/
abbrev L : GSem nD τ sig → Finset Unit := fun _ => ∅
/-- No level is used. -/
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- Host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped buffer is held between the segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the return. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Call 0 as a segment of @main: entered from every unscoped buffer at `W1`, left with them at `W2`. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (obliged0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (dat0_A (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (enter0 (V1 m ρ) c)
    unfold Pipeline.ΦA
    iintro ⟨Hp, -, Hr⟩
    isplitl [Hr]; · iexact Hr
    iexact Hp
  hout c := by
    rw [Pipeline.ownSems0_none]
    refine (leave0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered from every unscoped buffer at `W2`, left with them at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obliged1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (dat1_A (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (enter1 (V2 m ρ) c)
    unfold Pipeline.ΦA
    iintro ⟨Hp, -, Hr⟩
    isplitl [Hr]; · iexact Hr
    iexact Hp
  hout c := by
    rw [Pipeline.ownSems0_none]
    refine (leave1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four segments. -/
abbrev parts : List (Pipeline.Seg (pcfgs (F := F)) adm (pdats m ρ) () defs₀ 𝒱₀ L lv) :=
  [ .host (hseg hostOps0 hostOps0_sub fresh0 (W0 m ρ)), .region (reg0 m ρ), .region (reg1 m ρ),
    .host (hseg hostOps2 hostOps2_sub fresh2 (W3 m ρ)) ]
/-- @main is the run of its segments. -/
theorem main_parts (c : Dev nD) : main (F := F) c = Pipeline.Seg.run (parts m ρ) := (main_chain c).trans (by chain_rfl)
/-- Every semaphore is scoped. -/
theorem all_scoped : ∀ sm : SemLoc sig, sm.isScoped .tc = true := by decide

set_option backward.isDefEq.respectTransparency.types false in
/-- Every execution of @main ends, with every unscoped buffer at the contents `W4` and every semaphore counter at zero. -/
theorem runs : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (all_scoped g.2))⟩)

/-- An argument's buffer in a final state of `runs`. -/
theorem arg_of (s : PUnit × MemSt nD τ sig (Elt F)) (c : Dev nD) (a : Ref sig .tc) (ha : a ∈ args)
    (hu : ¬ (Proc.devRef .tc a : DevRef τ sig).isScoped)
    (h : ∀ b ∈ Pipeline.ucRefs τ sig, s.2.mem (((c : Thread nD τ)).1, b) = W4 m ρ c b) :
    s.2.mem ((c.tc : Thread nD τ).loc a) = m ((c.tc : Thread nD τ).loc a) :=
  (h _ (mem_uc a hu)).trans (W4_args m ρ c a ha)

/-- The frame: every execution of @main ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨arg_of m ρ r c main_arg0 (by decide) (by decide) (h.1 c),
    arg_of m ρ r c main_arg1 (by decide) (by decide) (h.1 c),
    arg_of m ρ r c main_arg2 (by decide) (by decide) (h.1 c),
    arg_of m ρ r c main_arg3 (by decide) (by decide) (h.1 c),
    arg_of m ρ r c main_arg4 (by decide) (by decide) (h.1 c),
    arg_of m ρ r c main_arg5 (by decide) (by decide) (h.1 c),
    arg_of m ρ r c main_arg6 (by decide) (by decide) (h.1 c),
    arg_of m ρ r c main_arg7 (by decide) (by decide) (h.1 c),
    arg_of m ρ r c main_arg8 (by decide) (by decide) (h.1 c),
    arg_of m ρ r c main_arg9 (by decide) (by decide) (h.1 c),
    arg_of m ρ r c main_arg10 (by decide) (by decide) (h.1 c),
    arg_of m ρ r c main_arg11 (by decide) (by decide) (h.1 c)⟩, h.2⟩) (runs m ρ)

end Cert.KernelIdeal.Scorer

end
-- ==== Proof.Scorer.lean ====
module

public import Idealize.ShloMosaic.PureOps.Ideal
public import Idealize.ShloMosaic.Lib.Pointwise

/-! The discriminator's mathematics over the extended reals: the hidden rows of the graph convolution, the gate read
    from their masked mean, and the bilinear score of a row in the two orders of multiplication. -/

@[expose] public section
noncomputable section
namespace Cert.Scorer
open Idealize.ShloMosaic

/-- The arrays that the scores are computed from, as functions of an index. -/
structure Inputs where
  /-- The node features of the first sequence. -/
  s1 : (⟨3, ![1, 10000, 128]⟩ : Shape).Idx → EReal
  /-- The node features of the second sequence. -/
  s2 : (⟨3, ![1, 10000, 128]⟩ : Shape).Idx → EReal
  /-- The adjacency weights. -/
  adj : (⟨3, ![1, 10000, 10000]⟩ : Shape).Idx → EReal
  /-- The weights of the mean over the rows. -/
  msk : (⟨2, ![1, 10000]⟩ : Shape).Idx → EReal
  /-- The bias added to each row's first score. -/
  sb1 : (⟨2, ![1, 10000]⟩ : Shape).Idx → EReal
  /-- The bias added to each row's second score. -/
  sb2 : (⟨2, ![1, 10000]⟩ : Shape).Idx → EReal
  /-- The feature map's weights. -/
  W : (⟨2, ![128, 128]⟩ : Shape).Idx → EReal
  /-- The slope of the activation below zero. -/
  a : (⟨1, ![1]⟩ : Shape).Idx → EReal
  /-- The convolution's bias. -/
  bias : (⟨1, ![128]⟩ : Shape).Idx → EReal
  /-- The bilinear form. -/
  bw : (⟨3, ![1, 128, 128]⟩ : Shape).Idx → EReal
  /-- The bilinear form's bias. -/
  b : (⟨1, ![1]⟩ : Shape).Idx → EReal

variable (x : Inputs) (s : (⟨3, ![1, 10000, 128]⟩ : Shape).Idx → EReal)

/-- Row `n` of the sequence `s` through the feature map, at feature `h`. -/
def feat (n : Fin 10000) (h : Fin 128) : EReal := ∑ d : Fin 128, s (ix3 0 n d) * x.W (ix2 h d)

/-- The convolution of the sequence `s` at row `n` and feature `h`, before the activation. -/
def lin (n : Fin 10000) (h : Fin 128) : EReal :=
  (∑ k : Fin 10000, x.adj (ix3 0 n k) * feat x s k h) + x.bias (ix1 h)

/-- The activation: `z` where it is at least zero, and `a` times it below. -/
def act (a z : EReal) : EReal := if 0 ≤ z then z else a * z

/-- The hidden row `n` of the sequence `s` at feature `h`. -/
def hidden (n : Fin 10000) (h : Fin 128) : EReal := act (x.a (ix1 0)) (lin x s n h)

/-- The gate at feature `j`: the logistic of the first sequence's weighted mean row. -/
def gate (j : Fin 128) : EReal :=
  Ideal.logistic (Ideal.div (∑ n : Fin 10000, hidden x x.s1 n j * x.msk (ix2 0 n)) (∑ n : Fin 10000, x.msk (ix2 0 n)))

/-- The bilinear score of row `n`, the gate multiplied into the form before the hidden row. -/
def late (n : Fin 10000) : EReal := ∑ i : Fin 128, hidden x s n i * ∑ j : Fin 128, gate x j * x.bw (ix3 0 i j)

/-- The bilinear score of row `n`, the hidden row multiplied into the form before the gate. -/
def early (n : Fin 10000) : EReal := ∑ j : Fin 128, gate x j * ∑ i : Fin 128, x.bw (ix3 0 i j) * hidden x s n i

/-- An extended real that is a real number. -/
def Fin' (z : EReal) : Prop := ∃ r : ℝ, (r : EReal) = z

/-- A number whose absolute value is below infinity is real. -/
theorem fin_of_abs {z : EReal} (h : max z (-z) < ⊤) : Fin' z := by
  induction z with
  | bot => simp at h
  | coe r => exact ⟨r, rfl⟩
  | top => simp at h

/-- A sum of two real numbers is real. -/
theorem fin_add {y z : EReal} : Fin' y → Fin' z → Fin' (y + z)
  | ⟨p, hp⟩, ⟨q, hq⟩ => ⟨p + q, by rw [← hp, ← hq, EReal.coe_add]⟩

/-- A product of two real numbers is real. -/
theorem fin_mul {y z : EReal} : Fin' y → Fin' z → Fin' (y * z)
  | ⟨p, hp⟩, ⟨q, hq⟩ => ⟨p * q, by rw [← hp, ← hq, EReal.coe_mul]⟩

/-- The sum of real numbers, as an extended real, is the sum of the extended reals. -/
theorem coe_sum {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- A sum of real numbers is real. -/
theorem fin_sum {ι : Type} [Fintype ι] {f : ι → EReal} (h : ∀ i, Fin' (f i)) : Fin' (∑ i, f i) := by
  choose g hg using h
  exact ⟨∑ i, g i, by rw [coe_sum]; exact Finset.sum_congr rfl fun i _ => hg i⟩

/-- The logistic of any extended real is real. -/
theorem fin_logistic (z : EReal) : Fin' (Ideal.logistic z) := by
  induction z with
  | bot => exact ⟨0, by simp⟩
  | coe r => exact ⟨_, (Ideal.logistic_coe (r := r)).symm⟩
  | top => exact ⟨1, by simp⟩

/-- The arrays that the hidden rows and the bilinear form are made of hold real numbers. -/
structure Finite : Prop where
  /-- The first sequence's entries are real. -/
  s1 : ∀ i, Fin' (x.s1 i)
  /-- The second sequence's entries are real. -/
  s2 : ∀ i, Fin' (x.s2 i)
  /-- The adjacency weights are real. -/
  adj : ∀ i, Fin' (x.adj i)
  /-- The feature map's weights are real. -/
  W : ∀ i, Fin' (x.W i)
  /-- The slope is real. -/
  a : ∀ i, Fin' (x.a i)
  /-- The convolution's bias is real. -/
  bias : ∀ i, Fin' (x.bias i)
  /-- The bilinear form's entries are real. -/
  bw : ∀ i, Fin' (x.bw i)

variable {x s}

/-- With real inputs a hidden row is real. -/
theorem fin_hidden (hx : Finite x) (hs : ∀ i, Fin' (s i)) (n : Fin 10000) (h : Fin 128) : Fin' (hidden x s n h) := by
  have hl : Fin' (lin x s n h) :=
    fin_add (fin_sum fun k => fin_mul (hx.adj _) (fin_sum fun d => fin_mul (hs _) (hx.W _))) (hx.bias _)
  unfold hidden act
  split
  · exact hl
  · exact fin_mul (hx.a _) hl

/-- A bilinear form over real numbers is the same in the two orders of multiplication. -/
theorem bilinear_comm {ι κ : Type} [Fintype ι] [Fintype κ] {p : ι → EReal} {q : κ → EReal} {w : ι → κ → EReal}
    (hp : ∀ i, Fin' (p i)) (hq : ∀ j, Fin' (q j)) (hw : ∀ i j, Fin' (w i j)) :
    ∑ i, p i * ∑ j, q j * w i j = ∑ j, q j * ∑ i, w i j * p i := by
  choose p' hp using hp
  choose q' hq using hq
  choose w' hw using hw
  have hl : ∑ i, p i * ∑ j, q j * w i j = ((∑ i, p' i * ∑ j, q' j * w' i j : ℝ) : EReal) := by
    rw [coe_sum]
    refine Finset.sum_congr rfl fun i _ => ?_
    rw [EReal.coe_mul, coe_sum, hp]
    refine congrArg _ (Finset.sum_congr rfl fun j _ => ?_)
    rw [EReal.coe_mul, hq, hw]
  have hr : ∑ j, q j * ∑ i, w i j * p i = ((∑ j, q' j * ∑ i, w' i j * p' i : ℝ) : EReal) := by
    rw [coe_sum]
    refine Finset.sum_congr rfl fun j _ => ?_
    rw [EReal.coe_mul, coe_sum, hq]
    refine congrArg _ (Finset.sum_congr rfl fun i _ => ?_)
    rw [EReal.coe_mul, hw, hp]
  rw [hl, hr]
  refine congrArg _ ?_
  simp only [Finset.mul_sum]
  rw [Finset.sum_comm]
  exact Finset.sum_congr rfl fun j _ => Finset.sum_congr rfl fun i _ => by ring

/-- With real inputs the two orders of multiplication give one score. -/
theorem late_eq_early (hx : Finite x) (hs : ∀ i, Fin' (s i)) (n : Fin 10000) : late x s n = early x s n :=
  bilinear_comm (fun i => fin_hidden hx hs n i) (fun _ => fin_logistic _) (fun _ _ => hx.bw _)

/-- The scores as the kernel makes them: the first sequence's rows, then the second's. -/
def scores (x : Inputs) (k : Fin 20000) : EReal :=
  if h : k.val < 10000 then late x x.s1 ⟨k.val, h⟩ + x.sb1 (ix2 0 ⟨k.val, h⟩) + x.b (ix1 0)
  else late x x.s2 ⟨k.val - 10000, by omega⟩ + x.sb2 (ix2 0 ⟨k.val - 10000, by omega⟩) + x.b (ix1 0)

/-- The scores as the reference makes them. -/
def scoresRef (x : Inputs) (k : Fin 20000) : EReal :=
  if h : k.val < 10000 then early x x.s1 ⟨k.val, h⟩ + x.b (ix1 0) + x.sb1 (ix2 0 ⟨k.val, h⟩)
  else early x x.s2 ⟨k.val - 10000, by omega⟩ + x.b (ix1 0) + x.sb2 (ix2 0 ⟨k.val - 10000, by omega⟩)

/-- With real inputs the kernel's scores are the reference's. -/
theorem scores_eq (hx : Finite x) (k : Fin 20000) : scores x k = scoresRef x k := by
  unfold scores scoresRef
  split
  · rw [late_eq_early hx hx.s1, add_right_comm]
  · rw [late_eq_early hx hx.s2, add_right_comm]

/-- A sum over 10000 rows is the sum over 25 blocks of the sums over the blocks' 400 rows. -/
theorem sum_blocks (f : Fin 10000 → EReal) :
    ∑ n, f n = ∑ t : Fin 25, ∑ r : Fin 400, f ⟨400 * t.val + r.val, by omega⟩ := by
  rw [← Fintype.sum_prod_type']
  refine (Fintype.sum_equiv (finProdFinEquiv (m := 25) (n := 400)) _ _ fun p => ?_).symm
  refine congrArg f (Fin.ext ?_)
  simp [finProdFinEquiv, Nat.add_comm]

end Cert.Scorer
-- ==== Proof.KernelIdeal.Payloads.lean ====
module

public import proofs.«01_k».proof.Proof.KernelIdeal.Run
public import proofs.«01_k».proof.Proof.Scorer
public import Idealize.ShloMosaic.Lib.Pointwise

/-! What the two kernels compute from their blocks, at an index, over the extended reals. -/

@[expose] public section
set_option maxRecDepth 16384
noncomputable section
namespace Cert.KernelIdeal.Scorer
open Idealize.ShloMosaic Cert.KernelIdeal.Gen
open Idealize.ShloMosaic.TcCoe
open Cert.Scorer (act)

/-- The first kernel's scratch: the left 128 columns are the first sequence through the feature map, the right 128 the
    second. -/
theorem ftsOf_at (s1 s2 : Vec Ideal S10000x128 .f32) (w : Vec Ideal S128x128 .f32) (n : Fin 10000) (k : Fin 256) :
    ftsOf s1 s2 w (ix2 n k) = if h : k.val < 128 then ∑ d : Fin 128, s1 (ix2 n d) * w (ix2 ⟨k.val, h⟩ d)
      else ∑ d : Fin 128, s2 (ix2 n d) * w (ix2 ⟨k.val - 128, by omega⟩ d) := by
  unfold ftsOf
  split
  · rename_i h
    refine (View.canon_cons_of_not_mem _ _ ?_).trans ?_
    rotate_left
    · have e : (ix2 n k : S10000x256.Idx) = (Rect.unit (s := S10000x256) ![0, 0] S10000x128.size inb_S10000x256_S10000x128_0_0).emb (ix2 n ⟨k.val, h⟩) := by
        funext a; refine Fin.ext ?_
        match a with
        | ⟨0, _⟩ => show n.val = 0 + 1 * n.val; omega
        | ⟨1, _⟩ => show k.val = 0 + 1 * k.val; omega
      rw [e, View.canon_cons_emb]
      pointwise [k0_pay2]
    · intro hy
      have h2 : 128 ≤ k.val := ((Rect.mem_set_unit (inb := inb_S10000x256_S10000x128_0_128)).1 hy 1).1
      omega
  · rename_i h
    have e : (ix2 n k : S10000x256.Idx) = (Rect.unit (s := S10000x256) ![0, 128] S10000x128.size inb_S10000x256_S10000x128_0_128).emb (ix2 n ⟨k.val - 128, by omega⟩) := by
      funext a; refine Fin.ext ?_
      match a with
      | ⟨0, _⟩ => show n.val = 0 + 1 * n.val; omega
      | ⟨1, _⟩ => show k.val = 128 + 1 * (k.val - 128); omega
    rw [e, View.canon_cons_emb]
    pointwise [k0_pay3]

/-- A block row of the convolution before the activation: the first 200 rows read the upper adjacency block, the others
    the lower one. -/
def preAct (f : Vec Ideal S10000x256 .f32) (y z : Vec Ideal S200x10000 .f32) (b : Vec Ideal S1x256 .f32) (r : Fin 400)
    (k : Fin 256) : EReal :=
  (if h : r.val < 200 then ∑ i : Fin 10000, y (ix2 ⟨r.val, h⟩ i) * f (ix2 i k)
    else ∑ i : Fin 10000, z (ix2 ⟨r.val - 200, by omega⟩ i) * f (ix2 i k)) + b (ix2 0 k)

/-- The first kernel's activated block at an index. -/
theorem k0_pay4_at (f : Vec Ideal S10000x256 .f32) (y z : Vec Ideal S200x10000 .f32) (b : Vec Ideal S1x256 .f32)
    (a : Ideal .f32) (r : Fin 400) (k : Fin 256) :
    k0_pay4 f y z b a (ix2 r k) = act a (preAct f y z b r k) := by
  pointwise [k0_pay4]
  rfl

/-- The first kernel's block of hidden rows is the activated block. -/
theorem k0_pay5_at (f : Vec Ideal S10000x256 .f32) (y z : Vec Ideal S200x10000 .f32) (b : Vec Ideal S1x256 .f32)
    (a : Ideal .f32) (r : Fin 400) (k : Fin 256) :
    k0_pay5 f y z b a (ix2 r k) = act a (preAct f y z b r k) := by
  rw [← k0_pay4_at]
  pointwise [k0_pay5]

/-- The first kernel's part of the weighted sum is the sum over the block's rows of the left columns. -/
theorem k0_pay6_at (f : Vec Ideal S10000x256 .f32) (y z : Vec Ideal S200x10000 .f32) (b : Vec Ideal S1x256 .f32)
    (a : Ideal .f32) (mk : Vec Ideal S400x1 .f32) (j : Fin 128) :
    k0_pay6 f y z b a mk (ix2 0 j) = ∑ r : Fin 400, act a (preAct f y z b r ⟨j.val, by omega⟩) * mk (ix2 r 0) := by
  pointwise [k0_pay6]
  simp only [k0_pay4_at]

/-- Adding a part to the running sum adds the entries. -/
theorem k0_pay1_at (p q : Vec Ideal S1x128 .f32) (j : Fin 128) : k0_pay1 p q (ix2 0 j) = q (ix2 0 j) + p (ix2 0 j) := by
  pointwise [k0_pay1]

/-- The second kernel's projection: the gate through the bilinear form. -/
theorem k1_pay1_at (mk : Vec Ideal S1x10000 .f32) (hs : Vec Ideal S1x128 .f32) (w : Vec Ideal S128x128 .f32) (i : Fin 128) :
    k1_pay1 mk hs w (ix2 0 i) = ∑ j : Fin 128, Ideal.logistic (Ideal.div (hs (ix2 0 j)) (∑ n : Fin 10000, mk (ix2 0 n))) * w (ix2 i j) := by
  pointwise [k1_pay1]
  simp only [Finset.univ_unique, Finset.sum_singleton]

/-- The second kernel's scores of a row: the left half of the hidden row, then the right half, against the projection. -/
theorem k1_pay2_at (v : Vec Ideal S1x128 .f32) (hs : Vec Ideal S2000x256 .bf16) (b : Ideal .f32) (sb : Vec Ideal S2000x2 .f32)
    (n : Fin 2000) (o : Fin 2) :
    k1_pay2 v hs b sb (ix2 n o) = (if _h : o.val < 1 then ∑ i : Fin 128, hs (ix2 n ⟨i.val, by omega⟩) * v (ix2 0 i)
      else ∑ i : Fin 128, hs (ix2 n ⟨128 + i.val, by omega⟩) * v (ix2 0 i)) + sb (ix2 n o) + b := by
  pointwise [k1_pay2]

end Cert.KernelIdeal.Scorer
-- ==== Proof.KernelIdeal.Blocks.lean ====
module

public import proofs.«01_k».proof.Proof.KernelIdeal.Payloads

/-! What each input window's block holds, at an index, in terms of the array it is cut from. -/

@[expose] public section
set_option maxRecDepth 16384
noncomputable section
namespace Cert.KernelIdeal.Scorer
open Idealize.ShloMosaic Cert.KernelIdeal.Gen
open Idealize.ShloMosaic.TcCoe

/-- Call 0 has 25 points. -/
theorem lt0 (t : Fin cfg0.N) : t.val < 25 := lt_of_lt_of_eq t.isLt N_0

/-- Call 1 has 5 points. -/
theorem lt1 (t : Fin cfg1.N) : t.val < 5 := lt_of_lt_of_eq t.isLt N_1

/-- The block index of window 0 of call 0. -/
theorem at0_0 : ∀ t : Fin cfg0.N, win0_0.index t 0 = 0 ∧ win0_0.index t 1 = 0 := by decide +kernel

/-- The block index of window 1 of call 0. -/
theorem at0_1 : ∀ t : Fin cfg0.N, win0_1.index t 0 = 0 ∧ win0_1.index t 1 = 0 := by decide +kernel

/-- The block index of window 2 of call 0. -/
theorem at0_2 : ∀ t : Fin cfg0.N, win0_2.index t 0 = 0 ∧ win0_2.index t 1 = 0 := by decide +kernel

/-- The block index of window 3 of call 0. -/
theorem at0_3 : ∀ t : Fin cfg0.N, win0_3.index t 0 = 2 * t.val ∧ win0_3.index t 1 = 0 := by decide +kernel

/-- The block index of window 4 of call 0. -/
theorem at0_4 : ∀ t : Fin cfg0.N, win0_4.index t 0 = 2 * t.val + 1 ∧ win0_4.index t 1 = 0 := by decide +kernel

/-- The block index of window 5 of call 0. -/
theorem at0_5 : ∀ t : Fin cfg0.N, win0_5.index t 0 = t.val ∧ win0_5.index t 1 = 0 := by decide +kernel

/-- The block index of window 6 of call 0. -/
theorem at0_6 : ∀ t : Fin cfg0.N, win0_6.index t 0 = 0 ∧ win0_6.index t 1 = 0 := by decide +kernel

/-- The block index of window 7 of call 0. -/
theorem at0_7 : ∀ t : Fin cfg0.N, win0_7.index t 0 = 0 ∧ win0_7.index t 1 = 0 := by decide +kernel

/-- The block index of window 0 of call 1. -/
theorem at1_0 : ∀ t : Fin cfg1.N, win1_0.index t 0 = t.val ∧ win1_0.index t 1 = 0 := by decide +kernel

/-- The block index of window 1 of call 1. -/
theorem at1_1 : ∀ t : Fin cfg1.N, win1_1.index t 0 = 0 ∧ win1_1.index t 1 = 0 := by decide +kernel

/-- The block index of window 2 of call 1. -/
theorem at1_2 : ∀ t : Fin cfg1.N, win1_2.index t 0 = 0 ∧ win1_2.index t 1 = 0 := by decide +kernel

/-- The block index of window 3 of call 1. -/
theorem at1_3 : ∀ t : Fin cfg1.N, win1_3.index t 0 = 0 ∧ win1_3.index t 1 = 0 := by decide +kernel

/-- The block index of window 4 of call 1. -/
theorem at1_4 : ∀ t : Fin cfg1.N, win1_4.index t 0 = t.val ∧ win1_4.index t 1 = 0 := by decide +kernel

/-- The block index of window 5 of call 1. -/
theorem at1_5 : ∀ t : Fin cfg1.N, win1_5.index t 0 = 0 ∧ win1_5.index t 1 = 0 := by decide +kernel

/-- The block index of window 8 of call 0. -/
theorem at0_8 : ∀ t : Fin cfg0.N, win0_8.index t 0 = t.val ∧ win0_8.index t 1 = 0 := by decide +kernel

/-- The block index of window 9 of call 0. -/
theorem at0_9 : ∀ t : Fin cfg0.N, win0_9.index t 0 = 0 ∧ win0_9.index t 1 = 0 := by decide +kernel

/-- The block index of window 6 of call 1. -/
theorem at1_6 : ∀ t : Fin cfg1.N, win1_6.index t 0 = t.val ∧ win1_6.index t 1 = 0 := by decide +kernel

variable (V : (c : Dev nD) → (b : Ref sig .tc) → Buf (Elt Ideal) ((c : Thread nD τ).loc b))

/-- Window 0 of call 0 holds its whole array. -/
theorem blk0_0_at (c : Dev nD) (t : Fin cfg0.N) (n : Fin 10000) (k : Fin 128) :
    (blk0 V c 0 t : (⟨2, ![10000, 128]⟩ : Shape).Idx → EReal) (ix2 n k) = V c main_v0 (ix2 n k) := by
  unfold blk0
  rw [View.read_apply]
  show V c main_v0 _ = V c main_v0 _
  congr 1
  funext a
  refine Fin.ext ?_
  match a with
  | ⟨0, _⟩ => show win0_0.index t 0 * 10000 + 1 * n.val = n.val; rw [(at0_0 t).1]; omega
  | ⟨1, _⟩ => show win0_0.index t 1 * 128 + 1 * k.val = k.val; rw [(at0_0 t).2]; omega

/-- Window 1 of call 0 holds its whole array. -/
theorem blk0_1_at (c : Dev nD) (t : Fin cfg0.N) (n : Fin 10000) (k : Fin 128) :
    (blk0 V c 1 t : (⟨2, ![10000, 128]⟩ : Shape).Idx → EReal) (ix2 n k) = V c main_v1 (ix2 n k) := by
  unfold blk0
  rw [View.read_apply]
  show V c main_v1 _ = V c main_v1 _
  congr 1
  funext a
  refine Fin.ext ?_
  match a with
  | ⟨0, _⟩ => show win0_1.index t 0 * 10000 + 1 * n.val = n.val; rw [(at0_1 t).1]; omega
  | ⟨1, _⟩ => show win0_1.index t 1 * 128 + 1 * k.val = k.val; rw [(at0_1 t).2]; omega

/-- Window 2 of call 0 holds its whole array. -/
theorem blk0_2_at (c : Dev nD) (t : Fin cfg0.N) (n : Fin 128) (k : Fin 128) :
    (blk0 V c 2 t : (⟨2, ![128, 128]⟩ : Shape).Idx → EReal) (ix2 n k) = V c main_arg7 (ix2 n k) := by
  unfold blk0
  rw [View.read_apply]
  show V c main_arg7 _ = V c main_arg7 _
  congr 1
  funext a
  refine Fin.ext ?_
  match a with
  | ⟨0, _⟩ => show win0_2.index t 0 * 128 + 1 * n.val = n.val; rw [(at0_2 t).1]; omega
  | ⟨1, _⟩ => show win0_2.index t 1 * 128 + 1 * k.val = k.val; rw [(at0_2 t).2]; omega

/-- Window 3 of call 0 holds, at point `t`, 200 rows of its array. -/
theorem blk0_3_at (c : Dev nD) (t : Fin cfg0.N) (n : Fin 200) (k : Fin 10000) :
    (blk0 V c 3 t : (⟨2, ![200, 10000]⟩ : Shape).Idx → EReal) (ix2 n k) = V c main_v2 (ix2 ⟨400 * t.val + n.val, by have := lt0 t; omega⟩ k) := by
  unfold blk0
  rw [View.read_apply]
  show V c main_v2 _ = V c main_v2 _
  congr 1
  funext a
  refine Fin.ext ?_
  match a with
  | ⟨0, _⟩ => show win0_3.index t 0 * 200 + 1 * n.val = 400 * t.val + n.val; rw [(at0_3 t).1]; omega
  | ⟨1, _⟩ => show win0_3.index t 1 * 10000 + 1 * k.val = k.val; rw [(at0_3 t).2]; omega

/-- Window 4 of call 0 holds, at point `t`, 200 rows of its array. -/
theorem blk0_4_at (c : Dev nD) (t : Fin cfg0.N) (n : Fin 200) (k : Fin 10000) :
    (blk0 V c 4 t : (⟨2, ![200, 10000]⟩ : Shape).Idx → EReal) (ix2 n k) = V c main_v2 (ix2 ⟨400 * t.val + 200 + n.val, by have := lt0 t; omega⟩ k) := by
  unfold blk0
  rw [View.read_apply]
  show V c main_v2 _ = V c main_v2 _
  congr 1
  funext a
  refine Fin.ext ?_
  match a with
  | ⟨0, _⟩ => show win0_4.index t 0 * 200 + 1 * n.val = 400 * t.val + 200 + n.val; rw [(at0_4 t).1]; omega
  | ⟨1, _⟩ => show win0_4.index t 1 * 10000 + 1 * k.val = k.val; rw [(at0_4 t).2]; omega

/-- Window 5 of call 0 holds, at point `t`, 400 rows of its array. -/
theorem blk0_5_at (c : Dev nD) (t : Fin cfg0.N) (n : Fin 400) (k : Fin 1) :
    (blk0 V c 5 t : (⟨2, ![400, 1]⟩ : Shape).Idx → EReal) (ix2 n k) = V c main_v3 (ix2 ⟨400 * t.val + n.val, by have := lt0 t; omega⟩ k) := by
  unfold blk0
  rw [View.read_apply]
  show V c main_v3 _ = V c main_v3 _
  congr 1
  funext a
  refine Fin.ext ?_
  match a with
  | ⟨0, _⟩ => show win0_5.index t 0 * 400 + 1 * n.val = 400 * t.val + n.val; rw [(at0_5 t).1]; omega
  | ⟨1, _⟩ => show win0_5.index t 1 * 1 + 1 * k.val = k.val; rw [(at0_5 t).2]; omega

/-- Window 6 of call 0 holds its whole array. -/
theorem blk0_6_at (c : Dev nD) (t : Fin cfg0.N) (n : Fin 1) (k : Fin 256) :
    (blk0 V c 6 t : (⟨2, ![1, 256]⟩ : Shape).Idx → EReal) (ix2 n k) = V c main_v7 (ix2 n k) := by
  unfold blk0
  rw [View.read_apply]
  show V c main_v7 _ = V c main_v7 _
  congr 1
  funext a
  refine Fin.ext ?_
  match a with
  | ⟨0, _⟩ => show win0_6.index t 0 * 1 + 1 * n.val = n.val; rw [(at0_6 t).1]; omega
  | ⟨1, _⟩ => show win0_6.index t 1 * 256 + 1 * k.val = k.val; rw [(at0_6 t).2]; omega

/-- Window 7 of call 0 holds its whole array. -/
theorem blk0_7_at (c : Dev nD) (t : Fin cfg0.N) (n : Fin 1) (k : Fin 1) :
    (blk0 V c 7 t : (⟨2, ![1, 1]⟩ : Shape).Idx → EReal) (ix2 n k) = V c main_v4 (ix2 n k) := by
  unfold blk0
  rw [View.read_apply]
  show V c main_v4 _ = V c main_v4 _
  congr 1
  funext a
  refine Fin.ext ?_
  match a with
  | ⟨0, _⟩ => show win0_7.index t 0 * 1 + 1 * n.val = n.val; rw [(at0_7 t).1]; omega
  | ⟨1, _⟩ => show win0_7.index t 1 * 1 + 1 * k.val = k.val; rw [(at0_7 t).2]; omega

/-- Window 0 of call 1 holds, at point `t`, 2000 rows of its array. -/
theorem blk1_0_at (c : Dev nD) (t : Fin cfg1.N) (n : Fin 2000) (k : Fin 256) :
    (blk1 V c 0 t : (⟨2, ![2000, 256]⟩ : Shape).Idx → EReal) (ix2 n k) = V c main_v12_0 (ix2 ⟨2000 * t.val + n.val, by have := lt1 t; omega⟩ k) := by
  unfold blk1
  rw [View.read_apply]
  show V c main_v12_0 _ = V c main_v12_0 _
  congr 1
  funext a
  refine Fin.ext ?_
  match a with
  | ⟨0, _⟩ => show win1_0.index t 0 * 2000 + 1 * n.val = 2000 * t.val + n.val; rw [(at1_0 t).1]; omega
  | ⟨1, _⟩ => show win1_0.index t 1 * 256 + 1 * k.val = k.val; rw [(at1_0 t).2]; omega

/-- Window 1 of call 1 holds its whole array. -/
theorem blk1_1_at (c : Dev nD) (t : Fin cfg1.N) (n : Fin 1) (k : Fin 128) :
    (blk1 V c 1 t : (⟨2, ![1, 128]⟩ : Shape).Idx → EReal) (ix2 n k) = V c main_v12_1 (ix2 n k) := by
  unfold blk1
  rw [View.read_apply]
  show V c main_v12_1 _ = V c main_v12_1 _
  congr 1
  funext a
  refine Fin.ext ?_
  match a with
  | ⟨0, _⟩ => show win1_1.index t 0 * 1 + 1 * n.val = n.val; rw [(at1_1 t).1]; omega
  | ⟨1, _⟩ => show win1_1.index t 1 * 128 + 1 * k.val = k.val; rw [(at1_1 t).2]; omega

/-- Window 2 of call 1 holds its whole array. -/
theorem blk1_2_at (c : Dev nD) (t : Fin cfg1.N) (n : Fin 1) (k : Fin 10000) :
    (blk1 V c 2 t : (⟨2, ![1, 10000]⟩ : Shape).Idx → EReal) (ix2 n k) = V c main_arg4 (ix2 n k) := by
  unfold blk1
  rw [View.read_apply]
  show V c main_arg4 _ = V c main_arg4 _
  congr 1
  funext a
  refine Fin.ext ?_
  match a with
  | ⟨0, _⟩ => show win1_2.index t 0 * 1 + 1 * n.val = n.val; rw [(at1_2 t).1]; omega
  | ⟨1, _⟩ => show win1_2.index t 1 * 10000 + 1 * k.val = k.val; rw [(at1_2 t).2]; omega

/-- Window 3 of call 1 holds its whole array. -/
theorem blk1_3_at (c : Dev nD) (t : Fin cfg1.N) (n : Fin 128) (k : Fin 128) :
    (blk1 V c 3 t : (⟨2, ![128, 128]⟩ : Shape).Idx → EReal) (ix2 n k) = V c main_v8 (ix2 n k) := by
  unfold blk1
  rw [View.read_apply]
  show V c main_v8 _ = V c main_v8 _
  congr 1
  funext a
  refine Fin.ext ?_
  match a with
  | ⟨0, _⟩ => show win1_3.index t 0 * 128 + 1 * n.val = n.val; rw [(at1_3 t).1]; omega
  | ⟨1, _⟩ => show win1_3.index t 1 * 128 + 1 * k.val = k.val; rw [(at1_3 t).2]; omega

/-- Window 4 of call 1 holds, at point `t`, 2000 rows of its array. -/
theorem blk1_4_at (c : Dev nD) (t : Fin cfg1.N) (n : Fin 2000) (k : Fin 2) :
    (blk1 V c 4 t : (⟨2, ![2000, 2]⟩ : Shape).Idx → EReal) (ix2 n k) = V c main_v11 (ix2 ⟨2000 * t.val + n.val, by have := lt1 t; omega⟩ k) := by
  unfold blk1
  rw [View.read_apply]
  show V c main_v11 _ = V c main_v11 _
  congr 1
  funext a
  refine Fin.ext ?_
  match a with
  | ⟨0, _⟩ => show win1_4.index t 0 * 2000 + 1 * n.val = 2000 * t.val + n.val; rw [(at1_4 t).1]; omega
  | ⟨1, _⟩ => show win1_4.index t 1 * 2 + 1 * k.val = k.val; rw [(at1_4 t).2]; omega

/-- Window 5 of call 1 holds its whole array. -/
theorem blk1_5_at (c : Dev nD) (t : Fin cfg1.N) (n : Fin 1) (k : Fin 1) :
    (blk1 V c 5 t : (⟨2, ![1, 1]⟩ : Shape).Idx → EReal) (ix2 n k) = V c main_v5 (ix2 n k) := by
  unfold blk1
  rw [View.read_apply]
  show V c main_v5 _ = V c main_v5 _
  congr 1
  funext a
  refine Fin.ext ?_
  match a with
  | ⟨0, _⟩ => show win1_5.index t 0 * 1 + 1 * n.val = n.val; rw [(at1_5 t).1]; omega
  | ⟨1, _⟩ => show win1_5.index t 1 * 1 + 1 * k.val = k.val; rw [(at1_5 t).2]; omega

end Cert.KernelIdeal.Scorer
-- ==== Proof.KernelIdeal.Arrays.lean ====
module

public import proofs.«01_k».proof.Proof.KernelIdeal.Blocks

/-! What the first kernel's two outputs hold once it has run: every hidden row, and the weighted sum of the first
    sequence's hidden rows. -/

@[expose] public section
set_option maxRecDepth 16384
noncomputable section
namespace Cert.KernelIdeal.Scorer
open Idealize.ShloMosaic Cert.KernelIdeal.Gen
open Idealize.ShloMosaic.TcCoe
open Cert.Scorer

variable (m : (ℓ : Loc nD τ sig) → Buf (Elt Ideal) ℓ) (ρ : Dev nD → PrngReg)

/-- The arrays the kernel's program is launched on, as the scores' inputs. -/
def inputs (c : Dev nD) : Inputs where
  s1 := m ((c : Thread nD τ).loc main_arg0)
  s2 := m ((c : Thread nD τ).loc main_arg1)
  adj := m ((c : Thread nD τ).loc main_arg2)
  msk := m ((c : Thread nD τ).loc main_arg4)
  sb1 := m ((c : Thread nD τ).loc main_arg5)
  sb2 := m ((c : Thread nD τ).loc main_arg6)
  W := m ((c : Thread nD τ).loc main_arg7)
  a := m ((c : Thread nD τ).loc main_arg8)
  bias := m ((c : Thread nD τ).loc main_arg9)
  bw := m ((c : Thread nD τ).loc main_arg10)
  b := m ((c : Thread nD τ).loc main_arg11)

/-! ### The arrays that the first host operations lay out -/

/-- The first sequence as call 0 reads it. -/
theorem V1_s1 (c : Dev nD) (n : Fin 10000) (d : Fin 128) :
    (V1 m ρ c main_v0 : S10000x128.Idx → EReal) (ix2 n d) = (inputs m c).s1 (ix3 0 n d) := by
  dsimp only [V1, W1, W0]; after_results_simp; pointwise; try rfl

/-- The second sequence as call 0 reads it. -/
theorem V1_s2 (c : Dev nD) (n : Fin 10000) (d : Fin 128) :
    (V1 m ρ c main_v1 : S10000x128.Idx → EReal) (ix2 n d) = (inputs m c).s2 (ix3 0 n d) := by
  dsimp only [V1, W1, W0]; after_results_simp; pointwise; try rfl

/-- The adjacency weights as call 0 reads them. -/
theorem V1_adj (c : Dev nD) (n : Fin 10000) (k : Fin 10000) :
    (V1 m ρ c main_v2 : S10000x10000.Idx → EReal) (ix2 n k) = (inputs m c).adj (ix3 0 n k) := by
  dsimp only [V1, W1, W0]; after_results_simp; pointwise; try rfl

/-- The rows' weights, as a column. -/
theorem V1_col (c : Dev nD) (n : Fin 10000) :
    (V1 m ρ c main_v3 : S10000x1.Idx → EReal) (ix2 n 0) = (inputs m c).msk (ix2 0 n) := by
  dsimp only [V1, W1, W0]; after_results_simp; pointwise; try rfl

/-- The activation's slope. -/
theorem V1_a (c : Dev nD) : (V1 m ρ c main_v4 : S1x1.Idx → EReal) (ix2 0 0) = (inputs m c).a (ix1 0) := by
  dsimp only [V1, W1, W0]; after_results_simp; pointwise; try rfl

/-- The bilinear form's bias. -/
theorem V1_b (c : Dev nD) : (V1 m ρ c main_v5 : S1x1.Idx → EReal) (ix2 0 0) = (inputs m c).b (ix1 0) := by
  dsimp only [V1, W1, W0]; after_results_simp; pointwise; try rfl

/-- The convolution's bias, twice side by side. -/
theorem V1_bias (c : Dev nD) (k : Fin 256) :
    (V1 m ρ c main_v7 : S1x256.Idx → EReal) (ix2 0 k) = if h : k.val < 128 then (inputs m c).bias (ix1 ⟨k.val, h⟩)
      else (inputs m c).bias (ix1 ⟨k.val - 128, by omega⟩) := by
  dsimp only [V1, W1, W0]; after_results_simp; pointwise; try rfl

/-- The bilinear form. -/
theorem V1_bw (c : Dev nD) (i : Fin 128) (j : Fin 128) :
    (V1 m ρ c main_v8 : S128x128.Idx → EReal) (ix2 i j) = (inputs m c).bw (ix3 0 i j) := by
  dsimp only [V1, W1, W0]; after_results_simp; pointwise; try rfl

/-- The two score biases, side by side. -/
theorem V1_sb (c : Dev nD) (n : Fin 10000) (o : Fin 2) :
    (V1 m ρ c main_v11 : S10000x2.Idx → EReal) (ix2 n o)
      = if o.val < 1 then (inputs m c).sb1 (ix2 0 n) else (inputs m c).sb2 (ix2 0 n) := by
  dsimp only [V1, W1, W0]; after_results_simp; pointwise; try rfl

/-- The feature map's weights. -/
theorem V1_W (c : Dev nD) : (V1 m ρ c main_arg7 : S128x128.Idx → EReal) = (inputs m c).W := W1_args m ρ c main_arg7 (by decide)

/-- The rows' weights. -/
theorem V1_msk (c : Dev nD) : (V1 m ρ c main_arg4 : S1x10000.Idx → EReal) = (inputs m c).msk := W1_args m ρ c main_arg4 (by decide)

/-! ### Call 0 -/

/-- A word of a one-word block is its entry. -/
theorem word_at (x : Vec Ideal S1x1 .f32) : word x = x (ix2 0 0) := by
  unfold word
  refine congrArg x ?_
  funext a
  refine Fin.ext ?_
  match a with
  | ⟨0, _⟩ => rfl
  | ⟨1, _⟩ => rfl

/-- A pair of features, the first sequence's in columns 0 to 127 and the second's in the others. -/
def paired (f : ((⟨3, ![1, 10000, 128]⟩ : Shape).Idx → EReal) → Fin 128 → EReal) (x : Inputs) (k : Fin 256) : EReal :=
  if h : k.val < 128 then f x.s1 ⟨k.val, h⟩ else f x.s2 ⟨k.val - 128, by omega⟩

/-- The scratch of call 0 holds both sequences through the feature map. -/
theorem fts_at (c : Dev nD) (n : Fin 10000) (k : Fin 256) :
    fts (V1 m ρ) c (ix2 n k) = paired (fun s h => feat (inputs m c) s n h) (inputs m c) k := by
  unfold fts
  refine (ftsOf_at _ _ _ n k).trans ?_
  unfold paired feat
  split <;> refine Finset.sum_congr rfl fun d _ => ?_
  · exact congrArg₂ (· * ·) ((blk0_0_at (V1 m ρ) c first0 n d).trans (V1_s1 m ρ c n d))
      ((blk0_2_at (V1 m ρ) c first0 _ d).trans (congrFun (V1_W m ρ c) _))
  · exact congrArg₂ (· * ·) ((blk0_1_at (V1 m ρ) c first0 n d).trans (V1_s2 m ρ c n d))
      ((blk0_2_at (V1 m ρ) c first0 _ d).trans (congrFun (V1_W m ρ c) _))

/-- A block row's convolution, from what the blocks hold there. -/
theorem preAct_of (x : Inputs) (n : Fin 10000) (f : Vec Ideal S10000x256 .f32) (y z : Vec Ideal S200x10000 .f32)
    (b : Vec Ideal S1x256 .f32) (r : Fin 400) (k : Fin 256)
    (hf : ∀ i : Fin 10000, f (ix2 i k) = paired (fun s h => feat x s i h) x k)
    (hy : ∀ (h : r.val < 200) (i : Fin 10000), y (ix2 ⟨r.val, h⟩ i) = x.adj (ix3 0 n i))
    (hz : ∀ (h : ¬ r.val < 200) (i : Fin 10000), z (ix2 ⟨r.val - 200, by omega⟩ i) = x.adj (ix3 0 n i))
    (hb : b (ix2 0 k) = if h : k.val < 128 then x.bias (ix1 ⟨k.val, h⟩) else x.bias (ix1 ⟨k.val - 128, by omega⟩)) :
    preAct f y z b r k = paired (fun s h => lin x s n h) x k := by
  have hs : (if h : r.val < 200 then ∑ i : Fin 10000, y (ix2 ⟨r.val, h⟩ i) * f (ix2 i k)
      else ∑ i : Fin 10000, z (ix2 ⟨r.val - 200, by omega⟩ i) * f (ix2 i k))
      = ∑ i : Fin 10000, x.adj (ix3 0 n i) * paired (fun s h => feat x s i h) x k := by
    split
    · rename_i h
      exact Finset.sum_congr rfl fun i _ => congrArg₂ (· * ·) (hy h i) (hf i)
    · rename_i h
      exact Finset.sum_congr rfl fun i _ => congrArg₂ (· * ·) (hz h i) (hf i)
  unfold preAct
  rw [hs, hb]
  unfold paired lin
  split <;> rfl

/-- The convolution's block at point `t`, before the activation. -/
theorem preAct_at (c : Dev nD) (t : Fin cfg0.N) (r : Fin 400) (k : Fin 256) :
    preAct (fts (V1 m ρ) c) (blk0 (V1 m ρ) c 3 t) (blk0 (V1 m ρ) c 4 t) (blk0 (V1 m ρ) c 6 t) r k
      = paired (fun s h => lin (inputs m c) s ⟨400 * t.val + r.val, by have := lt0 t; omega⟩ h) (inputs m c) k := by
  refine preAct_of _ _ _ _ _ _ r k (fun i => fts_at m ρ c i k) (fun h i => ?_) (fun h i => ?_) ?_
  · exact (blk0_3_at (V1 m ρ) c t _ i).trans (V1_adj m ρ c _ i)
  · refine ((blk0_4_at (V1 m ρ) c t _ i).trans (V1_adj m ρ c _ i)).trans
      (congrArg (fun q => (inputs m c).adj (ix3 0 q i)) (Fin.ext ?_))
    show 400 * t.val + 200 + (r.val - 200) = 400 * t.val + r.val
    omega
  · exact (blk0_6_at (V1 m ρ) c t 0 k).trans (V1_bias m ρ c k)

/-- The slope as call 0 reads it at point `t`. -/
theorem slope_at (c : Dev nD) (t : Fin cfg0.N) :
    (word (blk0 (V1 m ρ) c 7 t : Vec Ideal S1x1 .f32) : EReal) = (inputs m c).a (ix1 0) :=
  (word_at _).trans ((blk0_7_at (V1 m ρ) c t 0 0).trans (V1_a m ρ c))

/-- The block of hidden rows at point `t`. -/
theorem hid_at (c : Dev nD) (t : Fin cfg0.N) (r : Fin 400) (k : Fin 256) :
    hid (V1 m ρ) c t (ix2 r k)
      = paired (fun s h => hidden (inputs m c) s ⟨400 * t.val + r.val, by have := lt0 t; omega⟩ h) (inputs m c) k := by
  unfold hid
  refine (k0_pay5_at _ _ _ _ _ r k).trans ((congrArg₂ act (slope_at m ρ c t) (preAct_at m ρ c t r k)).trans ?_)
  unfold paired Scorer.hidden
  split <;> rfl

/-- The weighted sum of the first sequence's hidden rows of point `t`. -/
theorem part_at (c : Dev nD) (t : Fin cfg0.N) (j : Fin 128) :
    part (V1 m ρ) c t (ix2 0 j) = ∑ r : Fin 400, hidden (inputs m c) (inputs m c).s1 ⟨400 * t.val + r.val, by have := lt0 t; omega⟩ j
      * (inputs m c).msk (ix2 0 ⟨400 * t.val + r.val, by have := lt0 t; omega⟩) := by
  unfold part
  refine (k0_pay6_at _ _ _ _ _ _ j).trans (Finset.sum_congr rfl fun r _ => congrArg₂ (· * ·) ?_ ?_)
  · refine (congrArg₂ act (slope_at m ρ c t) (preAct_at m ρ c t r _)).trans ?_
    unfold paired
    rw [dif_pos j.isLt]
    rfl
  · exact (blk0_5_at (V1 m ρ) c t r 0).trans (V1_col m ρ c _)

/-- The running sum after point `n` is the sum of the parts up to it. -/
theorem acc_at (c : Dev nD) (j : Fin 128) : ∀ (n : ℕ) (h : n < cfg0.N),
    acc (V1 m ρ) c n h (ix2 0 j) = ∑ t : Fin (n + 1), part (V1 m ρ) c ⟨t.val, lt_of_lt_of_le t.isLt h⟩ (ix2 0 j)
  | 0, h => by
      rw [Fin.sum_univ_one]; rfl
  | n + 1, h => by
      rw [Fin.sum_univ_castSucc]
      exact (k0_pay1_at _ _ j).trans (congrArg₂ (· + ·) (acc_at c j n (Nat.lt_of_succ_lt h)) rfl)

/-- The last point of call 0. -/
def last0 : Fin cfg0.N := ⟨24, by rw [show cfg0.N = 25 from N_0]; decide⟩

/-- The running sum after the last point is the weighted sum over all the rows. -/
theorem acc_last (c : Dev nD) (j : Fin 128) : acc (V1 m ρ) c last0.val last0.isLt (ix2 0 j)
    = ∑ n : Fin 10000, hidden (inputs m c) (inputs m c).s1 n j * (inputs m c).msk (ix2 0 n) := by
  refine (acc_at m ρ c j 24 last0.isLt).trans ?_
  rw [sum_blocks]
  exact Finset.sum_congr rfl fun t _ => part_at m ρ c _ j

/-- Call 0 leaves every hidden row in its first output. -/
theorem hid_all (c : Dev nD) (n : Fin 10000) (k : Fin 256) :
    (V2 m ρ c main_v12_0 : S10000x256.Idx → EReal) (ix2 n k) = paired (fun s h => hidden (inputs m c) s n h) (inputs m c) k := by
  have e : (dat0 (V1 m ρ) c).arrAt 8 cfg0.N
      = (fun i : S10000x256.Idx => paired (fun s h => hidden (inputs m c) s (i 0) h) (inputs m c) (i 1) : S10000x256.Idx → EReal) := by
    refine (dat0 (V1 m ρ) c).arrAt_eq_of_covers 8 _ (by decide +kernel) fun t hf y => ?_
    blk_simp
    refine (congrFun (after0_8 (V1 m ρ) c t) y).trans ?_
    refine (congrArg (hid (V1 m ρ) c t) (eq_ix2 (n0 := 400) (n1 := 256) y)).trans ((hid_at m ρ c t (y 0) (y 1)).trans ?_)
    refine congrArg₂ (fun (n : Fin 10000) (k : Fin 256) => paired (fun s h => Scorer.hidden (inputs m c) s n h) (inputs m c) k)
      (Fin.ext ?_) (Fin.ext ?_)
    · show 400 * t.val + (y 0).val = win0_8.index t 0 * 400 + 1 * (y 0).val
      rw [(at0_8 t).1]; omega
    · show (y 1).val = win0_8.index t 1 * 256 + 1 * (y 1).val
      rw [(at0_8 t).2]; omega
  exact (congrFun ((W2_hid m ρ c).trans e) _)

/-- Call 0 leaves the weighted sum in its second output. -/
theorem sum_all (c : Dev nD) (j : Fin 128) : (V2 m ρ c main_v12_1 : S1x128.Idx → EReal) (ix2 0 j)
    = ∑ n : Fin 10000, hidden (inputs m c) (inputs m c).s1 n j * (inputs m c).msk (ix2 0 n) := by
  have e : (dat0 (V1 m ρ) c).arrAt 9 cfg0.N
      = (fun i : S1x128.Idx => acc (V1 m ρ) c last0.val last0.isLt i : S1x128.Idx → EReal) := by
    refine (dat0 (V1 m ρ) c).arrAt_eq_of_after_last 9 last0 (by decide +kernel) _ fun j => ?_
    blk_simp
    exact congrFun (after0_9 (V1 m ρ) c last0) j
  exact (congrFun ((W2_sum m ρ c).trans e) _).trans (acc_last m ρ c j)

end Cert.KernelIdeal.Scorer
-- ==== Proof.KernelIdeal.Value.lean ====
module

public import proofs.«01_k».proof.Proof.KernelIdeal.Arrays

/-! What the second kernel's output holds once it has run, and what the program returns. -/

@[expose] public section
set_option maxRecDepth 16384
noncomputable section
namespace Cert.KernelIdeal.Scorer
open Idealize.ShloMosaic Cert.KernelIdeal.Gen
open Idealize.ShloMosaic.TcCoe
open Cert.Scorer

variable (m : (ℓ : Loc nD τ sig) → Buf (Elt Ideal) ℓ) (ρ : Dev nD → PrngReg)

/-! ### The arrays that call 1 reads -/

/-- The rows' weights as call 1 reads them. -/
theorem V2_msk (c : Dev nD) : (V2 m ρ c main_arg4 : S1x10000.Idx → EReal) = (inputs m c).msk := W2_args m ρ c main_arg4 (by decide)

/-- The bilinear form as call 1 reads it. -/
theorem V2_bw (c : Dev nD) (i : Fin 128) (j : Fin 128) :
    (V2 m ρ c main_v8 : S128x128.Idx → EReal) (ix2 i j) = (inputs m c).bw (ix3 0 i j) :=
  (congrFun (W2_of m ρ c main_v8 (by decide) (by decide)) _).trans (V1_bw m ρ c i j)

/-- The two score biases as call 1 reads them. -/
theorem V2_sb (c : Dev nD) (n : Fin 10000) (o : Fin 2) : (V2 m ρ c main_v11 : S10000x2.Idx → EReal) (ix2 n o)
    = if o.val < 1 then (inputs m c).sb1 (ix2 0 n) else (inputs m c).sb2 (ix2 0 n) :=
  (congrFun (W2_of m ρ c main_v11 (by decide) (by decide)) _).trans (V1_sb m ρ c n o)

/-- The bilinear form's bias as call 1 reads it. -/
theorem V2_b (c : Dev nD) : (V2 m ρ c main_v5 : S1x1.Idx → EReal) (ix2 0 0) = (inputs m c).b (ix1 0) :=
  (congrFun (W2_of m ρ c main_v5 (by decide) (by decide)) _).trans (V1_b m ρ c)

/-! ### Call 1 -/

/-- The projection is the gate through the bilinear form. -/
theorem proj_at (c : Dev nD) (i : Fin 128) :
    proj (V2 m ρ) c (ix2 0 i) = ∑ j : Fin 128, gate (inputs m c) j * (inputs m c).bw (ix3 0 i j) := by
  unfold proj
  refine (k1_pay1_at _ _ _ i).trans (Finset.sum_congr rfl fun j _ => congrArg₂ (· * ·) ?_ ?_)
  · refine congrArg Ideal.logistic (congrArg₂ Ideal.div ?_ (Finset.sum_congr rfl fun n _ => ?_))
    · exact (blk1_1_at (V2 m ρ) c first1 0 j).trans (sum_all m ρ c j)
    · exact (blk1_2_at (V2 m ρ) c first1 0 n).trans (congrFun (V2_msk m ρ c) _)
  · exact (blk1_3_at (V2 m ρ) c first1 i j).trans (V2_bw m ρ c i j)

/-- The score of row `n`: of the first sequence in column 0, of the second in column 1. -/
def pair (x : Inputs) (n : Fin 10000) (o : Fin 2) : EReal :=
  if o.val < 1 then late x x.s1 n + x.sb1 (ix2 0 n) + x.b (ix1 0) else late x x.s2 n + x.sb2 (ix2 0 n) + x.b (ix1 0)

/-- A row's scores, from what the blocks hold there. -/
theorem pair_of (x : Inputs) (q : Fin 10000) (v : Vec Ideal S1x128 .f32) (hs : Vec Ideal S2000x256 .bf16) (b : Ideal .f32)
    (sb : Vec Ideal S2000x2 .f32) (n : Fin 2000) (o : Fin 2)
    (hv : ∀ i : Fin 128, v (ix2 0 i) = ∑ j : Fin 128, gate x j * x.bw (ix3 0 i j))
    (hh : ∀ k : Fin 256, hs (ix2 n k) = paired (fun s h => Scorer.hidden x s q h) x k)
    (hb : b = x.b (ix1 0))
    (hsb : sb (ix2 n o) = if o.val < 1 then x.sb1 (ix2 0 q) else x.sb2 (ix2 0 q)) :
    k1_pay2 v hs b sb (ix2 n o) = pair x q o := by
  rw [k1_pay2_at, hsb, hb]
  unfold pair late
  split
  · refine congrArg (· + x.sb1 (ix2 0 q) + x.b (ix1 0)) (Finset.sum_congr rfl fun i _ => congrArg₂ (· * ·) ?_ (hv i))
    refine (hh _).trans ?_
    unfold paired
    exact dif_pos i.isLt
  · refine congrArg (· + x.sb2 (ix2 0 q) + x.b (ix1 0)) (Finset.sum_congr rfl fun i _ => congrArg₂ (· * ·) ?_ (hv i))
    refine (hh _).trans ?_
    unfold paired
    refine (dif_neg (by show ¬ 128 + i.val < 128; omega)).trans (congrArg (Scorer.hidden x x.s2 q) (Fin.ext ?_))
    show 128 + i.val - 128 = i.val
    omega

/-- The block of scores at point `t`. -/
theorem sco_at (c : Dev nD) (t : Fin cfg1.N) (n : Fin 2000) (o : Fin 2) :
    sco (V2 m ρ) c t (ix2 n o) = pair (inputs m c) ⟨2000 * t.val + n.val, by have := lt1 t; omega⟩ o := by
  unfold sco
  refine pair_of _ _ _ _ _ _ n o (fun i => proj_at m ρ c i) (fun k => ?_) ?_ ?_
  · exact (blk1_0_at (V2 m ρ) c t n k).trans (hid_all m ρ c _ k)
  · exact (word_at _).trans ((blk1_5_at (V2 m ρ) c t 0 0).trans (V2_b m ρ c))
  · exact (blk1_4_at (V2 m ρ) c t n o).trans (V2_sb m ρ c _ o)

/-- Call 1 leaves every row's two scores in its output. -/
theorem sco_all (c : Dev nD) : (W3 m ρ c (Proc.devRef .tc main_v13) : S10000x2.Idx → EReal) = fun i => pair (inputs m c) (i 0) (i 1) := by
  refine (W3_arr m ρ c 6).trans ?_
  refine (dat1 (V2 m ρ) c).arrAt_eq_of_covers 6 _ (by decide +kernel) fun t hf y => ?_
  blk_simp
  refine (congrFun (after1_6 (V2 m ρ) c t) y).trans ?_
  refine (congrArg (sco (V2 m ρ) c t) (eq_ix2 (n0 := 2000) (n1 := 2) y)).trans ((sco_at m ρ c t (y 0) (y 1)).trans ?_)
  refine congrArg₂ (fun (n : Fin 10000) (o : Fin 2) => pair (inputs m c) n o) (Fin.ext ?_) (Fin.ext ?_)
  · show 2000 * t.val + (y 0).val = win1_6.index t 0 * 2000 + 1 * (y 0).val
    rw [(at1_6 t).1]; omega
  · show (y 1).val = win1_6.index t 1 * 2 + 1 * (y 1).val
    rw [(at1_6 t).2]; omega

/-! ### The result -/

/-- The first column of the scores, as a row. -/
def lane0 (w : FVec Ideal S10000x2 .f32) : FVec Ideal S1x10000 .f32 :=
  shapeCast S1x10000 (shapeCast S10000 (extractStridedSlice S10000x1 ![0, 0] w slices_S10000x2_S10000x1_0_0)
    shapeCasts_S10000x1_S10000) shapeCasts_S10000_S1x10000

/-- The second column of the scores, as a row. -/
def lane1 (w : FVec Ideal S10000x2 .f32) : FVec Ideal S1x10000 .f32 :=
  shapeCast S1x10000 (shapeCast S10000 (extractStridedSlice S10000x1 ![0, 1] w slices_S10000x2_S10000x1_0_1)
    shapeCasts_S10000x1_S10000) shapeCasts_S10000_S1x10000

/-- The last host operations: the two columns of the scores, one after the other in a row. -/
def lay (w : FVec Ideal S10000x2 .f32) : FVec Ideal S1x20000 .f32 :=
  concatenate S1x20000 1 [⟨S1x10000, lane0 w⟩, ⟨S1x10000, lane1 w⟩] concatenates_S1x10000_S1x10000_S1x20000_d1

/-- Entry `n` of the first column's row. -/
theorem lane0_at (w : FVec Ideal S10000x2 .f32) (n : Fin 10000) : lane0 w (ix2 0 n) = w (ix2 n 0) := by
  pointwise [lane0]

/-- Entry `n` of the second column's row. -/
theorem lane1_at (w : FVec Ideal S10000x2 .f32) (n : Fin 10000) : lane1 w (ix2 0 n) = w (ix2 n 1) := by
  pointwise [lane1]

/-- Column `k` of the row is the first column's entry `k`, or the second's entry `k - 10000`. -/
theorem lay_at (w : FVec Ideal S10000x2 .f32) (k : Fin 20000) : lay w (ix2 0 k)
    = if h : k.val < 10000 then w (ix2 ⟨k.val, h⟩ 0) else w (ix2 ⟨k.val - 10000, by omega⟩ 1) := by
  simp only [← lane0_at, ← lane1_at]
  pointwise [lay]

/-- What the program returns is the scores laid in a row. -/
theorem out_eq (c : Dev nD) : (W4 m ρ c (Proc.devRef .tc main_v20) : FVec Ideal S1x20000 .f32)
    = lay (W3 m ρ c (Proc.devRef .tc main_v13)) := by
  dsimp only [W4]
  after_results_simp
  rfl

/-- What the program returns, at column `k`, is the mathematics' score there. -/
theorem out_at (c : Dev nD) (k : Fin 20000) :
    (W4 m ρ c (Proc.devRef .tc main_v20) : S1x20000.Idx → EReal) (ix2 0 k) = scores (inputs m c) k := by
  refine (congrFun (out_eq m ρ c) (ix2 0 k)).trans ((congrArg (fun w : FVec Ideal S10000x2 .f32 => lay w (ix2 0 k))
    (sco_all m ρ c)).trans ((lay_at _ k).trans ?_))
  unfold scores
  split <;> rfl

end Cert.KernelIdeal.Scorer
-- ==== Proof.ReferenceIdeal.Value.lean ====
module

public import proofs.«01_k».proof.Proof.Gen.ReferenceIdeal.Run
public import proofs.«01_k».proof.Proof.Scorer
public import Idealize.ShloMosaic.Lib.Pointwise

/-! What the reference program returns, at an index, over the extended reals. -/

@[expose] public section
noncomputable section
namespace Cert.ReferenceIdeal.Scorer
open Idealize.ShloMosaic Cert.ReferenceIdeal.Gen
open Cert.Scorer

/-- The hidden rows of a sequence, by the reference's operations. -/
def rows (s : FVec Ideal S1x10000x128 .f32) (adj : FVec Ideal S1x10000x10000 .f32) (W : FVec Ideal S128x128 .f32)
    (a : FVec Ideal S1 .f32) (bias : FVec Ideal S128 .f32) : FVec Ideal S1x10000x128 .f32 :=
  let z := addf (Host.dotGeneral dot_S1x10000x10000_S1x10000x128_S1x10000x128_2_1_1_2_0_0 none adj
      (Host.dotGeneral dot_S1x10000x128_S128x128_S1x10000x128_2_1_01_0_n_n none s W))
    (broadcastInDim S1x10000x128 ![0, 1, 2] bcast_S1x1x128_S1x10000x128_0_1_2
      (broadcastInDim S1x1x128 ![2] bcast_S128_S1x1x128_2 bias))
  select (cmpf .oge z (broadcastInDim S1x10000x128 ![] bcast_S_S1x10000x128 (constant S_ .f32 0x00000000#32))) z
    (mulf (broadcastInDim S1x10000x128 ![0, 1, 2] bcast_S1x1x1_S1x10000x128_0_1_2
      (broadcastInDim S1x1x1 ![2] bcast_S1_S1x1x1_2 a)) z)

/-- The gate, by the reference's operations on the first sequence's hidden rows. -/
def opening (h : FVec Ideal S1x10000x128 .f32) (msk : FVec Ideal S1x10000 .f32) : FVec Ideal S1x128 .f32 :=
  Host.divf (broadcastInDim S1x128 ![] bcast_S_S1x128 (constant S_ .f32 0x3F800000#32))
    (addf (broadcastInDim S1x128 ![] bcast_S_S1x128 (constant S_ .f32 0x3F800000#32))
      (Host.exp (Host.negf (Host.divf
        (Host.reduceAdd (mulf h (broadcastInDim S1x10000x128 ![0, 1, 2] bcast_S1x10000x1_S1x10000x128_0_1_2
          (broadcastInDim S1x10000x1 ![0, 1] bcast_S1x10000_S1x10000x1_0_1 msk)))
          (constant S_ .f32 0x00000000#32) reducesTo_S1x10000x128_S1x128_d1 h_S_)
        (broadcastInDim S1x128 ![] bcast_S_S1x128
          (Host.reduceAdd (broadcastInDim S1x10000x1 ![0, 1] bcast_S1x10000_S1x10000x1_0_1 msk)
            (constant S_ .f32 0x00000000#32) reducesTo_S1x10000x1_S_d0_1_2 h_S_))))))

/-- A sequence's scores, by the reference's operations on the gate and the sequence's hidden rows. -/
def marks (g : FVec Ideal S1x128 .f32) (h : FVec Ideal S1x10000x128 .f32) (bw : FVec Ideal S1x128x128 .f32)
    (b : FVec Ideal S1 .f32) (sb : FVec Ideal S1x10000 .f32) : FVec Ideal S1x10000 .f32 :=
  addf (shapeCast _ (addf
    (Host.dotGeneral dot_S1x10000x128_S1x128x1x10000_S1x10000x1_2_1_n_0_01_23 none
      (broadcastInDim S1x10000x128 ![0, 1, 2] bcast_S1x1x128_S1x10000x128_0_1_2
        (broadcastInDim S1x1x128 ![0, 2] bcast_S1x128_S1x1x128_0_2 g))
      (Host.dotGeneral dot_S1x128x128_S1x10000x128_S1x128x1x10000_1_2_02_01_n_n none bw h))
    (broadcastInDim S1x10000x1 ![0, 1, 2] bcast_S1x1x1_S1x10000x1_0_1_2
      (broadcastInDim S1x1x1 ![2] bcast_S1_S1x1x1_2 b))) shapeCasts_S1x10000x1_S1x10000) sb

/-- The arrays the reference is launched on, as the scores' inputs. -/
def inputs (m : (ℓ : Loc nD τ sig) → Buf (Elt Ideal) ℓ) (c : Dev nD) : Inputs where
  s1 := m ((c.tc : Thread nD τ).loc main_arg0)
  s2 := m ((c.tc : Thread nD τ).loc main_arg1)
  adj := m ((c.tc : Thread nD τ).loc main_arg2)
  msk := m ((c.tc : Thread nD τ).loc main_arg4)
  sb1 := m ((c.tc : Thread nD τ).loc main_arg5)
  sb2 := m ((c.tc : Thread nD τ).loc main_arg6)
  W := m ((c.tc : Thread nD τ).loc main_arg7)
  a := m ((c.tc : Thread nD τ).loc main_arg8)
  bias := m ((c.tc : Thread nD τ).loc main_arg9)
  bw := m ((c.tc : Thread nD τ).loc main_arg10)
  b := m ((c.tc : Thread nD τ).loc main_arg11)

/-- The reference's hidden rows are the mathematics' hidden rows. -/
theorem rows_at (x : Inputs) (s : FVec Ideal S1x10000x128 .f32) (n : Fin 10000) (h : Fin 128) :
    rows s x.adj x.W x.a x.bias (ix3 0 n h) = hidden x s n h := by
  pointwise [rows]
  rfl

/-- The reference's gate is the mathematics' gate. -/
theorem opening_at (x : Inputs) (j : Fin 128) :
    opening (rows x.s1 x.adj x.W x.a x.bias) x.msk (ix2 0 j) = gate x j := by
  pointwise [opening]
  simp only [rows_at, Finset.univ_unique, Finset.sum_singleton]
  rfl

/-- A sequence's scores by the reference are the mathematics' scores, the hidden row multiplied in first. -/
theorem marks_at (x : Inputs) (s : FVec Ideal S1x10000x128 .f32) (sb : FVec Ideal S1x10000 .f32) (n : Fin 10000) :
    marks (opening (rows x.s1 x.adj x.W x.a x.bias) x.msk) (rows s x.adj x.W x.a x.bias) x.bw x.b sb (ix2 0 n)
      = early x s n + x.b (ix1 0) + sb (ix2 0 n) := by
  pointwise [marks]
  simp only [rows_at, opening_at]
  rfl

/-- The reference's result, by the stages above. -/
theorem out_eq (m : (ℓ : Loc nD τ sig) → Buf (Elt Ideal) ℓ) (c : Dev nD) (x : Inputs) (hx : inputs m c = x) :
    Value.res_main_v51 m c = concatenate S1x20000 1
      [⟨S1x10000, marks (opening (rows x.s1 x.adj x.W x.a x.bias) x.msk) (rows x.s1 x.adj x.W x.a x.bias) x.bw x.b x.sb1⟩,
       ⟨S1x10000, marks (opening (rows x.s1 x.adj x.W x.a x.bias) x.msk) (rows x.s2 x.adj x.W x.a x.bias) x.bw x.b x.sb2⟩]
      concatenates_S1x10000_S1x10000_S1x20000_d1 := by
  subst hx
  rfl

/-- The reference's result at column `k` is the mathematics' score there. -/
theorem out_at (m : (ℓ : Loc nD τ sig) → Buf (Elt Ideal) ℓ) (c : Dev nD) (k : Fin 20000) :
    (Value.res_main_v51 m c : S1x20000.Idx → EReal) (ix2 0 k) = scoresRef (inputs m c) k := by
  rw [out_eq m c _ rfl]
  generalize inputs m c = x
  pointwise
  simp only [marks_at]
  rfl

end Cert.ReferenceIdeal.Scorer
-- ==== Proof.Finite.lean ====
module

public import proofs.«01_k».proof.Proof.Gen.Pre_inputs_finite
public import proofs.«01_k».proof.Proof.Scorer
public import Idealize.ShloMosaic.Lib.Pointwise
public import Idealize.ShloMosaic.Lib.Affine
public import Idealize.ShloMosaic.Lib.ReduceAll

/-! What the precondition says of the entries of the arrays: each is a real number. -/

@[expose] public section
noncomputable section
namespace Cert.Pre_inputs_finite.Scorer
open Idealize.ShloMosaic Cert.Pre_inputs_finite.Gen Cert.Scorer

/-- An entry that compares below infinity in absolute value is real. -/
theorem real_of_below {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) : Fin' (x i) := by
  have top : Ideal.ofBits .f32 0x7F800000#32 = (⊤ : EReal) := by simp [Ideal.ofBits, Ideal.ieee]
  have h' : BitVec.ofBool (decide (max (x i) (-(x i) : EReal) < (Ideal.ofBits .f32 0x7F800000#32 : EReal))) = 1#1 := h
  rw [top] at h'
  refine fin_of_abs (not_not.1 fun hn => ?_)
  rw [decide_eq_false hn] at h'
  exact absurd h' (by decide)

/-- What the precondition says of the seven arrays. -/
theorem parts (a0 a1 : FVec Ideal S1x10000x128 .f32) (a2 : FVec Ideal S1x10000x10000 .f32) (a3 : IVec S_ 32)
    (a4 a5 a6 : FVec Ideal S1x10000 .f32) (a7 : FVec Ideal S128x128 .f32) (a8 : FVec Ideal S1 .f32) (a9 : FVec Ideal S128 .f32)
    (a10 : FVec Ideal S1x128x128 .f32) (a11 : FVec Ideal S1 .f32)
    (h : fn a0 a1 a2 a3 a4 a5 a6 a7 a8 a9 a10 a11 = fun _ => 1#1) :
    (∀ i, Fin' (a0 i)) ∧ (∀ i, Fin' (a1 i)) ∧ (∀ i, Fin' (a2 i)) ∧ (∀ i, Fin' (a7 i)) ∧ (∀ i, Fin' (a8 i)) ∧ (∀ i, Fin' (a9 i)) ∧ (∀ i, Fin' (a10 i)) := by
  have e := congrFun h (Shape.Idx.first h_S_)
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e2⟩ := IntOp.andi_eq_one.1 e
  obtain ⟨e0, e1⟩ := IntOp.andi_eq_one.1 e
  exact ⟨fun i => real_of_below _ a0 i (Host.reduce_andi_all _ _ _ _ _ e0 i),
    fun i => real_of_below _ a1 i (Host.reduce_andi_all _ _ _ _ _ e1 i),
    fun i => real_of_below _ a2 i (Host.reduce_andi_all _ _ _ _ _ e2 i),
    fun i => real_of_below _ a7 i (Host.reduce_andi_all _ _ _ _ _ e7 i),
    fun i => real_of_below _ a8 i (Host.reduce_andi_all _ _ _ _ _ e8 i),
    fun i => real_of_below _ a9 i (Host.reduce_andi_all _ _ _ _ _ e9 i),
    fun i => real_of_below _ a10 i (Host.reduce_andi_all _ _ _ _ _ e10 i)⟩

end Cert.Pre_inputs_finite.Scorer
-- ==== Proof.lean ====
module

public import proofs.«01_k».proof.Defs
public import proofs.«01_k».proof.Proof.Gen.ReferenceIdeal.Run
public import proofs.«01_k».proof.Proof.Gen.Pre_inputs_finite
public import proofs.«01_k».proof.Proof.Kernel.Run
public import proofs.«01_k».proof.Proof.KernelIdeal.Value
public import proofs.«01_k».proof.Proof.ReferenceIdeal.Value
public import proofs.«01_k».proof.Proof.Finite
public import Idealize.ShloMosaic.Adequacy
public import Idealize.ShloMosaic.Init

@[expose] public section

noncomputable section

namespace Cert.Proof

open Idealize.ShloMosaic Idealize.SL.Sem

/-- Under the precondition the arrays that the hidden rows and the bilinear form are made of are real. -/
theorem finite_of (m : (ℓ : Loc Cert.KernelIdeal.nD Cert.KernelIdeal.τ Cert.KernelIdeal.sig) → Buf (Elt Ideal) ℓ)
    (h : Cert.Pre_KernelIdeal_inputs_finite m) (c : Dev Cert.KernelIdeal.nD) :
    Cert.Scorer.Finite (Cert.KernelIdeal.Scorer.inputs m c) := by
  obtain ⟨h0, h1, h2, h7, h8, h9, h10⟩ := Cert.Pre_inputs_finite.Scorer.parts _ _ _ _ _ _ _ _ _ _ _ _ (h c)
  exact ⟨h0, h1, h2, h7, h8, h9, h10⟩

/-- Over the extended reals, from finite inputs, the kernel and the reference return the same scores. -/
theorem algebraic : Cert.algebraic_KernelIdeal_ReferenceIdeal_pre_inputs_finite := fun m g m' g' hpre hargs => by
  refine ⟨fun c => Cert.KernelIdeal.Scorer.W4 m g c (Proc.devRef .tc Cert.KernelIdeal.main_v20), ?_, ?_⟩
  · refine (θ_run _ _ _).mono (fun r h c => ?_) (Cert.KernelIdeal.Scorer.runs m g)
    exact ⟨h.1 c _ (Cert.KernelIdeal.Scorer.mem_uc Cert.KernelIdeal.main_v20 (by decide)), Cert.KernelIdeal.Scorer.arg_of m g r c Cert.KernelIdeal.main_arg0 (by decide) (by decide) (h.1 c),
      Cert.KernelIdeal.Scorer.arg_of m g r c Cert.KernelIdeal.main_arg1 (by decide) (by decide) (h.1 c),
      Cert.KernelIdeal.Scorer.arg_of m g r c Cert.KernelIdeal.main_arg2 (by decide) (by decide) (h.1 c),
      Cert.KernelIdeal.Scorer.arg_of m g r c Cert.KernelIdeal.main_arg3 (by decide) (by decide) (h.1 c),
      Cert.KernelIdeal.Scorer.arg_of m g r c Cert.KernelIdeal.main_arg4 (by decide) (by decide) (h.1 c),
      Cert.KernelIdeal.Scorer.arg_of m g r c Cert.KernelIdeal.main_arg5 (by decide) (by decide) (h.1 c),
      Cert.KernelIdeal.Scorer.arg_of m g r c Cert.KernelIdeal.main_arg6 (by decide) (by decide) (h.1 c),
      Cert.KernelIdeal.Scorer.arg_of m g r c Cert.KernelIdeal.main_arg7 (by decide) (by decide) (h.1 c),
      Cert.KernelIdeal.Scorer.arg_of m g r c Cert.KernelIdeal.main_arg8 (by decide) (by decide) (h.1 c),
      Cert.KernelIdeal.Scorer.arg_of m g r c Cert.KernelIdeal.main_arg9 (by decide) (by decide) (h.1 c),
      Cert.KernelIdeal.Scorer.arg_of m g r c Cert.KernelIdeal.main_arg10 (by decide) (by decide) (h.1 c),
      Cert.KernelIdeal.Scorer.arg_of m g r c Cert.KernelIdeal.main_arg11 (by decide) (by decide) (h.1 c)⟩
  · refine (θ_run _ _ _).mono (fun r h c => ⟨(h c).1.trans ?_, (h c).2⟩) (Cert.ReferenceIdeal.Value.run m' g')
    obtain ⟨h0, h1, h2, -, h4, h5, h6, h7, h8, h9, h10, h11⟩ := hargs c
    have hin : Cert.ReferenceIdeal.Scorer.inputs m' c = Cert.KernelIdeal.Scorer.inputs m c := by
      unfold Cert.ReferenceIdeal.Scorer.inputs Cert.KernelIdeal.Scorer.inputs
      rw [h0, h1, h2, h4, h5, h6, h7, h8, h9, h10, h11]
    refine funext fun (i : (⟨2, ![1, 20000]⟩ : Shape).Idx) => ?_
    obtain ⟨k, rfl⟩ : ∃ k : Fin 20000, i = ix2 0 k := ⟨i 1, (eq_ix2 i).trans (congrArg (fun z : Fin 1 => ix2 z (i 1)) (Subsingleton.elim _ _))⟩
    refine (Cert.ReferenceIdeal.Scorer.out_at m' c k).trans (Eq.trans ?_ (Cert.KernelIdeal.Scorer.out_at m g c k).symm)
    rw [hin, Cert.Scorer.scores_eq (finite_of m hpre c)]

/-- Everything the certificate claims. -/
theorem claim : Cert.Claim := ⟨Cert.Kernel.Gen.facts, Cert.KernelIdeal.Gen.facts, Cert.ReferenceIdeal.Gen.facts,
  Cert.Pre_inputs_finite.Gen.facts,
  fun m g _ => Cert.Kernel.Scorer.frame m g,
  fun m g _ => Cert.KernelIdeal.Scorer.frame m g,
  fun m g _ => Cert.KernelIdeal.Scorer.frame m g,
  fun m g _ => (θ_run _ _ _).mono (fun _ h => ⟨fun c => (h c).2, funext fun s => nomatch s.2⟩) (Cert.ReferenceIdeal.Value.run m g),
  fun m g _ => (θ_run _ _ _).mono (fun _ h => ⟨fun c => (h c).2, funext fun s => nomatch s.2⟩) (Cert.ReferenceIdeal.Value.run m g),
  trivial, algebraic⟩

end Cert.Proof

end
